-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "inv_beta" .f32 0x41A00000#32 ((268435456 / 13421773 : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S64x128 : Shape := ⟨2, ![64, 128]⟩
abbrev S64 : Shape := ⟨1, ![64]⟩
abbrev S64x100000 : Shape := ⟨2, ![64, 100000]⟩
abbrev S100000x128 : Shape := ⟨2, ![100000, 128]⟩
abbrev S_ : Shape := ⟨0, ![]⟩

class Facts : Prop where
  bcast_S_S64x100000 : S_.BroadcastsInDim S64x100000 (![] : Fin 0 → Fin S64x100000.rank)
  bcast_S_S100000x128 : S_.BroadcastsInDim S100000x128 (![] : Fin 0 → Fin S100000x128.rank)

variable [Facts]

def fn {F : FTy → Type} [FloatOps F] (main_arg0 : FVec F S64x128 .f32) (main_arg1 : IVec S64 32) (main_arg2 : IVec S64 32) (main_arg3 : IVec S64 32) (main_arg4 : FVec F S64x100000 .f32) (main_arg5 : FVec F S100000x128 .f32) : IVec S64x100000 1 × IVec S100000x128 1 :=
  let main_cst : FVec F S_ .f32 := constant S_ .f32 0xFF800000#32
  let main_v0 : FVec F S64x100000 .f32 := broadcastInDim S64x100000 ![] bcast_S_S64x100000 main_cst
  let main_v1 : IVec S64x100000 1 := cmpf .ogt main_arg4 main_v0
  let main_v2 : FVec F S100000x128 .f32 := Host.absf main_arg5
  let main_cst_0 : FVec F S_ .f32 := constant S_ .f32 0x7F800000#32
  let main_v3 : FVec F S100000x128 .f32 := broadcastInDim S100000x128 ![] bcast_S_S100000x128 main_cst_0
  let main_v4 : IVec S100000x128 1 := cmpf .olt main_v2 main_v3
  (main_v1, main_v4)
-- ==== Kernel.lean ====
abbrev S64x128 : Shape := ⟨2, ![64, 128]⟩
abbrev S64 : Shape := ⟨1, ![64]⟩
abbrev S64x100000 : Shape := ⟨2, ![64, 100000]⟩
abbrev S100000x128 : Shape := ⟨2, ![100000, 128]⟩
abbrev S8x1x1 : Shape := ⟨3, ![8, 1, 1]⟩
abbrev S4096x128 : Shape := ⟨2, ![4096, 128]⟩
abbrev S64x4096 : Shape := ⟨2, ![64, 4096]⟩
abbrev S1x1x1 : Shape := ⟨3, ![1, 1, 1]⟩
abbrev S64x1 : Shape := ⟨2, ![64, 1]⟩
abbrev S1x4096 : Shape := ⟨2, ![1, 4096]⟩
abbrev S4096x1 : Shape := ⟨2, ![4096, 1]⟩
abbrev S1 : Shape := ⟨1, ![1]⟩
abbrev S1x1 : Shape := ⟨2, ![1, 1]⟩
abbrev S_ : Shape := ⟨0, ![]⟩

abbrev nBuf : Space → Nat
  | .hbm => 10
  | .vmem => 11
  | .smem => 0
  | _ => 0

abbrev bufTy : (tb : Table) → Fin (tcTables nBuf tb) → BufTy
  | .hbm, ⟨0, _⟩ => ⟨S64x128, .f32⟩
  | .hbm, ⟨1, _⟩ => ⟨S64, .i32⟩
  | .hbm, ⟨2, _⟩ => ⟨S64, .i32⟩
  | .hbm, ⟨3, _⟩ => ⟨S64, .i32⟩
  | .hbm, ⟨4, _⟩ => ⟨S64x100000, .f32⟩
  | .hbm, ⟨5, _⟩ => ⟨S100000x128, .f32⟩
  | .hbm, ⟨6, _⟩ => ⟨S8x1x1, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S64x128, .f32⟩
  | .local _ .vmem, ⟨1, _⟩ => ⟨S4096x128, .f32⟩
  | .local _ .vmem, ⟨2, _⟩ => ⟨S4096x128, .f32⟩
  | .local _ .vmem, ⟨3, _⟩ => ⟨S64x4096, .f32⟩
  | .local _ .vmem, ⟨4, _⟩ => ⟨S64x4096, .f32⟩
  | .local _ .vmem, ⟨5, _⟩ => ⟨S1x1x1, .f32⟩
  | .local _ .vmem, ⟨6, _⟩ => ⟨S1x1x1, .f32⟩
  | .local _ .vmem, ⟨7, _⟩ => ⟨S64x1, .f32⟩
  | .local _ .vmem, ⟨8, _⟩ => ⟨S64x128, .f32⟩
  | .local _ .vmem, ⟨9, _⟩ => ⟨S64x1, .f32⟩
  | .local _ .vmem, ⟨10, _⟩ => ⟨S64x1, .f32⟩
  | _, _ => ⟨S64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![25], ![false]⟩

def k0_cond3 (i : grid0.Coords) : BitVec 1 :=
  let arg0 : BitVec 32 := BitVec.ofNat 32 (i 0).val
  let c4096_i32 : BitVec 32 := 4096#32
  let v0 : BitVec 32 := Scalar.muli arg0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c12500_i32 : BitVec 32 := 12500#32
  let c0_i32_1 : BitVec 32 := 0#32
  let v7 : BitVec 1 := Scalar.cmpi .sgt c12500_i32 c0_i32_1
  let v8 : BitVec 32 := Scalar.extui v7
  let c0_i32_2 : BitVec 32 := 0#32
  let v9 : BitVec 1 := Scalar.cmpi .slt c12500_i32 c0_i32_2
  let v10 : BitVec 32 := Scalar.extui v9
  let v11 : BitVec 32 := Scalar.subi v8 v10
  let v12 : BitVec 1 := Scalar.cmpi .ne v6 v11
  let v13 : BitVec 32 := Scalar.remsi v0 c12500_i32
  let c0_i32_3 : BitVec 32 := 0#32
  let v14 : BitVec 1 := Scalar.cmpi .ne v13 c0_i32_3
  let v15 : BitVec 1 := Scalar.andi v12 v14
  let v1 : BitVec 32 := Scalar.divsi v0 c12500_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c12500_i32_5 : BitVec 32 := 12500#32
  let v19 : BitVec 32 := Scalar.muli v18 c12500_i32_5
  let c4096_i32_6 : BitVec 32 := 4096#32
  let v20 : BitVec 32 := Scalar.addi v0 c4096_i32_6
  let v21 : BitVec 1 := Scalar.cmpi .slt v19 v20
  let v42 : BitVec 32 := Scalar.extui v21
  let c0_i32_18 : BitVec 32 := 0#32
  let v43 : BitVec 1 := Scalar.cmpi .ne v42 c0_i32_18
  v43

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c4096_i32 : BitVec 32 := 4096#32
  let v0 : BitVec 32 := Scalar.muli arg0 c4096_i32
  let c12500_i32 : BitVec 32 := 12500#32
  let v1 : BitVec 32 := Scalar.divsi v0 c12500_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c12500_i32 c0_i32_1
  let v8 : BitVec 32 := Scalar.extui v7
  let c0_i32_2 : BitVec 32 := 0#32
  let v9 : BitVec 1 := Scalar.cmpi .slt c12500_i32 c0_i32_2
  let v10 : BitVec 32 := Scalar.extui v9
  let v11 : BitVec 32 := Scalar.subi v8 v10
  let v12 : BitVec 1 := Scalar.cmpi .ne v6 v11
  let v13 : BitVec 32 := Scalar.remsi v0 c12500_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "inv_beta" => some ((268435456 / 13421773 : ℝ) : EReal)
  | "mask" => some ⊥
  | _ => none
-- ==== ReferenceIdeal.lean ====
abbrev S64x128 : Shape := ⟨2, ![64, 128]⟩
abbrev S64 : Shape := ⟨1, ![64]⟩
abbrev S64x100000 : Shape := ⟨2, ![64, 100000]⟩
abbrev S100000x128 : Shape := ⟨2, ![100000, 128]⟩
abbrev S_ : Shape := ⟨0, ![]⟩
abbrev S64x1 : Shape := ⟨2, ![64, 1]⟩
abbrev S64x12500 : Shape := ⟨2, ![64, 12500]⟩
abbrev S12500x128 : Shape := ⟨2, ![12500, 128]⟩
abbrev S128x12500 : Shape := ⟨2, ![128, 12500]⟩

abbrev nBuf : Space → Nat
  | .hbm => 345
  | .vmem => 0
  | .smem => 0
  | _ => 0

abbrev hbmTy0_0 (i : Nat) : BufTy := match i % 128 with
  | 0 => ⟨S64x128, .f32⟩
  | 1 => ⟨S64, .i32⟩
  | 2 => ⟨S64, .i32⟩
  | 3 => ⟨S64, .i32⟩
  | 4 => ⟨S64x100000, .f32⟩
  | 5 => ⟨S100000x128, .f32⟩
  | 6 => ⟨S64x128, .f32⟩
  | 7 => ⟨S_, .f32⟩
  | 8 => ⟨S64, .f32⟩
  | 9 => ⟨S64x1, .f32⟩
  | 10 => ⟨S64x1, .f32⟩
  | 11 => ⟨S_, .f32⟩
  | 12 => ⟨S64x1, .f32⟩
  | 13 => ⟨S64x1, .f32⟩
  | 14 => ⟨S64x128, .f32⟩
  | 15 => ⟨S64x128, .f32⟩
  | 16 => ⟨S64x12500, .f32⟩
  | 17 => ⟨S_, .f32⟩
  | 18 => ⟨S64, .f32⟩
  | 19 => ⟨S64x1, .f32⟩
  | 20 => ⟨S_, .f32⟩
  | 21 => ⟨S64x1, .f32⟩
  | 22 => ⟨S64x1, .f32⟩
  | 23 => ⟨S64x12500, .f32⟩
  | 24 => ⟨S64x12500, .f32⟩
  | 25 => ⟨S12500x128, .f32⟩
  | 26 => ⟨S128x12500, .f32⟩
  | 27 => ⟨S64x12500, .f32⟩
  | 28 => ⟨S_, .f32⟩
  | 29 => ⟨S64x12500, .f32⟩
  | 30 => ⟨S64x12500, .f32⟩
  | 31 => ⟨S_, .f32⟩
  | 32 => ⟨S64, .f32⟩
  | 33 => ⟨S_, .f32⟩
  | 34 => ⟨S64, .f32⟩
  | 35 => ⟨S64, .f32⟩
  | 36 => ⟨S64x1, .f32⟩
  | 37 => ⟨S64x12500, .f32⟩
  | 38 => ⟨S64x12500, .f32⟩
  | 39 => ⟨S64x12500, .f32⟩
  | 40 => ⟨S_, .f32⟩
  | 41 => ⟨S64, .f32⟩
  | 42 => ⟨S64x1, .f32⟩
  | 43 => ⟨S64x1, .f32⟩
  | 44 => ⟨S64x12500, .f32⟩
  | 45 => ⟨S64x12500, .f32⟩
  | 46 => ⟨S64x12500, .f32⟩
  | 47 => ⟨S64x12500, .f32⟩
  | 48 => ⟨S_, .f32⟩
  | 49 => ⟨S64, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S64x12500, .f32⟩
  | 59 => ⟨S_, .f32⟩
  | 60 => ⟨S64, .f32⟩
  | 61 => ⟨S64x1, .f32⟩
  | 62 => ⟨S_, .f32⟩
  | 63 => ⟨S64x1, .f32⟩
  | 64 => ⟨S64x1, .f32⟩
  | 65 => ⟨S64x12500, .f32⟩
  | 66 => ⟨S64x12500, .f32⟩
  | 67 => ⟨S12500x128, .f32⟩
  | 68 => ⟨S128x12500, .f32⟩
  | 69 => ⟨S64x12500, .f32⟩
  | 70 => ⟨S_, .f32⟩
  | 71 => ⟨S64x12500, .f32⟩
  | 72 => ⟨S64x12500, .f32⟩
  | 73 => ⟨S_, .f32⟩
  | 74 => ⟨S64, .f32⟩
  | 75 => ⟨S_, .f32⟩
  | 76 => ⟨S64, .f32⟩
  | 77 => ⟨S64, .f32⟩
  | 78 => ⟨S64x1, .f32⟩
  | 79 => ⟨S64x12500, .f32⟩
  | 80 => ⟨S64x12500, .f32⟩
  | 81 => ⟨S64x12500, .f32⟩
  | 82 => ⟨S_, .f32⟩
  | 83 => ⟨S64, .f32⟩
  | 84 => ⟨S64x1, .f32⟩
  | 85 => ⟨S64x1, .f32⟩
  | 86 => ⟨S64x12500, .f32⟩
  | 87 => ⟨S64x12500, .f32⟩
  | 88 => ⟨S64x12500, .f32⟩
  | 89 => ⟨S64x12500, .f32⟩
  | 90 => ⟨S_, .f32⟩
  | 91 => ⟨S64, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S64x12500, .f32⟩
  | 100 => ⟨S_, .f32⟩
  | 101 => ⟨S64, .f32⟩
  | 102 => ⟨S64x1, .f32⟩
  | 103 => ⟨S_, .f32⟩
  | 104 => ⟨S64x1, .f32⟩
  | 105 => ⟨S64x1, .f32⟩
  | 106 => ⟨S64x12500, .f32⟩
  | 107 => ⟨S64x12500, .f32⟩
  | 108 => ⟨S12500x128, .f32⟩
  | 109 => ⟨S128x12500, .f32⟩
  | 110 => ⟨S64x12500, .f32⟩
  | 111 => ⟨S_, .f32⟩
  | 112 => ⟨S64x12500, .f32⟩
  | 113 => ⟨S64x12500, .f32⟩
  | 114 => ⟨S_, .f32⟩
  | 115 => ⟨S64, .f32⟩
  | 116 => ⟨S_, .f32⟩
  | 117 => ⟨S64, .f32⟩
  | 118 => ⟨S64, .f32⟩
  | 119 => ⟨S64x1, .f32⟩
  | 120 => ⟨S64x12500, .f32⟩
  | 121 => ⟨S64x12500, .f32⟩
  | 122 => ⟨S64x12500, .f32⟩
  | 123 => ⟨S_, .f32⟩
  | 124 => ⟨S64, .f32⟩
  | 125 => ⟨S64x1, .f32⟩
  | 126 => ⟨S64x1, .f32⟩
  | 127 => ⟨S64x12500, .f32⟩
  | _ => ⟨S64x128, .f32⟩

abbrev hbmTy0_1 (i : Nat) : BufTy := match i % 128 with
  | 0 => ⟨S64x12500, .f32⟩
  | 1 => ⟨S64x12500, .f32⟩
  | 2 => ⟨S64x12500, .f32⟩
  | 3 => ⟨S_, .f32⟩
  | 4 => ⟨S64, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S64x12500, .f32⟩
  | 13 => ⟨S_, .f32⟩
  | 14 => ⟨S64, .f32⟩
  | 15 => ⟨S64x1, .f32⟩
  | 16 => ⟨S_, .f32⟩
  | 17 => ⟨S64x1, .f32⟩
  | 18 => ⟨S64x1, .f32⟩
  | 19 => ⟨S64x12500, .f32⟩
  | 20 => ⟨S64x12500, .f32⟩
  | 21 => ⟨S12500x128, .f32⟩
  | 22 => ⟨S128x12500, .f32⟩
  | 23 => ⟨S64x12500, .f32⟩
  | 24 => ⟨S_, .f32⟩
  | 25 => ⟨S64x12500, .f32⟩
  | 26 => ⟨S64x12500, .f32⟩
  | 27 => ⟨S_, .f32⟩
  | 28 => ⟨S64, .f32⟩
  | 29 => ⟨S_, .f32⟩
  | 30 => ⟨S64, .f32⟩
  | 31 => ⟨S64, .f32⟩
  | 32 => ⟨S64x1, .f32⟩
  | 33 => ⟨S64x12500, .f32⟩
  | 34 => ⟨S64x12500, .f32⟩
  | 35 => ⟨S64x12500, .f32⟩
  | 36 => ⟨S_, .f32⟩
  | 37 => ⟨S64, .f32⟩
  | 38 => ⟨S64x1, .f32⟩
  | 39 => ⟨S64x1, .f32⟩
  | 40 => ⟨S64x12500, .f32⟩
  | 41 => ⟨S64x12500, .f32⟩
  | 42 => ⟨S64x12500, .f32⟩
  | 43 => ⟨S64x12500, .f32⟩
  | 44 => ⟨S_, .f32⟩
  | 45 => ⟨S64, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S64x12500, .f32⟩
  | 54 => ⟨S_, .f32⟩
  | 55 => ⟨S64, .f32⟩
  | 56 => ⟨S64x1, .f32⟩
  | 57 => ⟨S_, .f32⟩
  | 58 => ⟨S64x1, .f32⟩
  | 59 => ⟨S64x1, .f32⟩
  | 60 => ⟨S64x12500, .f32⟩
  | 61 => ⟨S64x12500, .f32⟩
  | 62 => ⟨S12500x128, .f32⟩
  | 63 => ⟨S128x12500, .f32⟩
  | 64 => ⟨S64x12500, .f32⟩
  | 65 => ⟨S_, .f32⟩
  | 66 => ⟨S64x12500, .f32⟩
  | 67 => ⟨S64x12500, .f32⟩
  | 68 => ⟨S_, .f32⟩
  | 69 => ⟨S64, .f32⟩
  | 70 => ⟨S_, .f32⟩
  | 71 => ⟨S64, .f32⟩
  | 72 => ⟨S64, .f32⟩
  | 73 => ⟨S64x1, .f32⟩
  | 74 => ⟨S64x12500, .f32⟩
  | 75 => ⟨S64x12500, .f32⟩
  | 76 => ⟨S64x12500, .f32⟩
  | 77 => ⟨S_, .f32⟩
  | 78 => ⟨S64, .f32⟩
  | 79 => ⟨S64x1, .f32⟩
  | 80 => ⟨S64x1, .f32⟩
  | 81 => ⟨S64x12500, .f32⟩
  | 82 => ⟨S64x12500, .f32⟩
  | 83 => ⟨S64x12500, .f32⟩
  | 84 => ⟨S64x12500, .f32⟩
  | 85 => ⟨S_, .f32⟩
  | 86 => ⟨S64, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S64x12500, .f32⟩
  | 95 => ⟨S_, .f32⟩
  | 96 => ⟨S64, .f32⟩
  | 97 => ⟨S64x1, .f32⟩
  | 98 => ⟨S_, .f32⟩
  | 99 => ⟨S64x1, .f32⟩
  | 100 => ⟨S64x1, .f32⟩
  | 101 => ⟨S64x12500, .f32⟩
  | 102 => ⟨S64x12500, .f32⟩
  | 103 => ⟨S12500x128, .f32⟩
  | 104 => ⟨S128x12500, .f32⟩
  | 105 => ⟨S64x12500, .f32⟩
  | 106 => ⟨S_, .f32⟩
  | 107 => ⟨S64x12500, .f32⟩
  | 108 => ⟨S64x12500, .f32⟩
  | 109 => ⟨S_, .f32⟩
  | 110 => ⟨S64, .f32⟩
  | 111 => ⟨S_, .f32⟩
  | 112 => ⟨S64, .f32⟩
  | 113 => ⟨S64, .f32⟩
  | 114 => ⟨S64x1, .f32⟩
  | 115 => ⟨S64x12500, .f32⟩
  | 116 => ⟨S64x12500, .f32⟩
  | 117 => ⟨S64x12500, .f32⟩
  | 118 => ⟨S_, .f32⟩
  | 119 => ⟨S64, .f32⟩
  | 120 => ⟨S64x1, .f32⟩
  | 121 => ⟨S64x1, .f32⟩
  | 122 => ⟨S64x12500, .f32⟩
  | 123 => ⟨S64x12500, .f32⟩
  | 124 => ⟨S64x12500, .f32⟩
  | 125 => ⟨S64x12500, .f32⟩
  | 126 => ⟨S_, .f32⟩
  | 127 => ⟨S64, .f32⟩
  | _ => ⟨S64x128, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S64x12500, .f32⟩
  | 8 => ⟨S_, .f32⟩
  | 9 => ⟨S64, .f32⟩
  | 10 => ⟨S64x1, .f32⟩
  | 11 => ⟨S_, .f32⟩
  | 12 => ⟨S64x1, .f32⟩
  | 13 => ⟨S64x1, .f32⟩
  | 14 => ⟨S64x12500, .f32⟩
  | 15 => ⟨S64x12500, .f32⟩
  | 16 => ⟨S12500x128, .f32⟩
  | 17 => ⟨S128x12500, .f32⟩
  | 18 => ⟨S64x12500, .f32⟩
  | 19 => ⟨S_, .f32⟩
  | 20 => ⟨S64x12500, .f32⟩
  | 21 => ⟨S64x12500, .f32⟩
  | 22 => ⟨S_, .f32⟩
  | 23 => ⟨S64, .f32⟩
  | 24 => ⟨S_, .f32⟩
  | 25 => ⟨S64, .f32⟩
  | 26 => ⟨S64, .f32⟩
  | 27 => ⟨S64x1, .f32⟩
  | 28 => ⟨S64x12500, .f32⟩
  | 29 => ⟨S64x12500, .f32⟩
  | 30 => ⟨S64x12500, .f32⟩
  | 31 => ⟨S_, .f32⟩
  | 32 => ⟨S64, .f32⟩
  | 33 => ⟨S64x1, .f32⟩
  | 34 => ⟨S64x1, .f32⟩
  | 35 => ⟨S64x12500, .f32⟩
  | 36 => ⟨S64x12500, .f32⟩
  | 37 => ⟨S64x12500, .f32⟩
  | 38 => ⟨S64x12500, .f32⟩
  | 39 => ⟨S_, .f32⟩
  | 40 => ⟨S64, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S64x12500, .f32⟩
  | 49 => ⟨S_, .f32⟩
  | 50 => ⟨S64, .f32⟩
  | 51 => ⟨S64x1, .f32⟩
  | 52 => ⟨S_, .f32⟩
  | 53 => ⟨S64x1, .f32⟩
  | 54 => ⟨S64x1, .f32⟩
  | 55 => ⟨S64x12500, .f32⟩
  | 56 => ⟨S64x12500, .f32⟩
  | 57 => ⟨S12500x128, .f32⟩
  | 58 => ⟨S128x12500, .f32⟩
  | 59 => ⟨S64x12500, .f32⟩
  | 60 => ⟨S_, .f32⟩
  | 61 => ⟨S64x12500, .f32⟩
  | 62 => ⟨S64x12500, .f32⟩
  | 63 => ⟨S_, .f32⟩
  | 64 => ⟨S64, .f32⟩
  | 65 => ⟨S_, .f32⟩
  | 66 => ⟨S64, .f32⟩
  | 67 => ⟨S64, .f32⟩
  | 68 => ⟨S64x1, .f32⟩
  | 69 => ⟨S64x12500, .f32⟩
  | 70 => ⟨S64x12500, .f32⟩
  | 71 => ⟨S64x12500, .f32⟩
  | 72 => ⟨S_, .f32⟩
  | 73 => ⟨S64, .f32⟩
  | 74 => ⟨S64x1, .f32⟩
  | 75 => ⟨S64x1, .f32⟩
  | 76 => ⟨S64x12500, .f32⟩
  | 77 => ⟨S64x12500, .f32⟩
  | 78 => ⟨S64x12500, .f32⟩
  | 79 => ⟨S64x12500, .f32⟩
  | 80 => ⟨S_, .f32⟩
  | 81 => ⟨S64, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | _ => ⟨S64x128, .f32⟩

abbrev hbmTy (i : Nat) : BufTy := match i / 128 with
  | 0 => hbmTy0_0 i
  | 1 => hbmTy0_1 i
  | 2 => hbmTy0_2 i
  | _ => ⟨S64x128, .f32⟩

abbrev bufTy : (tb : Table) → Fin (tcTables nBuf tb) → BufTy
  | .hbm, ⟨i, _⟩ => hbmTy i
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_call1_cst : Ref sig .tc := ⟨.hbm, 31, rfl⟩
abbrev main_call1_v0 : Ref sig .tc := ⟨.hbm, 32, rfl⟩
abbrev main_call1_cst_0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_cst_1 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_3 : Ref sig .tc := ⟨.hbm, 48, rfl⟩
abbrev main_v20 : Ref sig .tc := ⟨.hbm, 49, rfl⟩
abbrev main_cst_4 : Ref sig .tc := ⟨.hbm, 50, rfl⟩
abbrev main_v21 : Ref sig .tc := ⟨.hbm, 51, rfl⟩
abbrev main_cst_5 : Ref sig .tc := ⟨.hbm, 52, rfl⟩
abbrev main_v22 : Ref sig .tc := ⟨.hbm, 53, rfl⟩
abbrev main_cst_6 : Ref sig .tc := ⟨.hbm, 54, rfl⟩
abbrev main_v23 : Ref sig .tc := ⟨.hbm, 55, rfl⟩
abbrev main_cst_7 : Ref sig .tc := ⟨.hbm, 56, rfl⟩
abbrev main_v24 : Ref sig .tc := ⟨.hbm, 57, rfl⟩
abbrev main_v25 : Ref sig .tc := ⟨.hbm, 58, rfl⟩
abbrev main_cst_8 : Ref sig .tc := ⟨.hbm, 59, rfl⟩
abbrev main_v26 : Ref sig .tc := ⟨.hbm, 60, rfl⟩
abbrev main_v27 : Ref sig .tc := ⟨.hbm, 61, rfl⟩
abbrev main_cst_9 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_cst_10 : Ref sig .tc := ⟨.hbm, 70, rfl⟩
abbrev main_v35 : Ref sig .tc := ⟨.hbm, 71, rfl⟩
abbrev main_v36 : Ref sig .tc := ⟨.hbm, 72, rfl⟩
abbrev main_call2_cst : Ref sig .tc := ⟨.hbm, 73, rfl⟩
abbrev main_call2_v0 : Ref sig .tc := ⟨.hbm, 74, rfl⟩
abbrev main_call2_cst_0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_v6 : Ref sig .tc := ⟨.hbm, 81, rfl⟩
abbrev main_call2_cst_1 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_cst_11 : Ref sig .tc := ⟨.hbm, 90, rfl⟩
abbrev main_v40 : Ref sig .tc := ⟨.hbm, 91, rfl⟩
abbrev main_cst_12 : Ref sig .tc := ⟨.hbm, 92, rfl⟩
abbrev main_v41 : Ref sig .tc := ⟨.hbm, 93, rfl⟩
abbrev main_cst_13 : Ref sig .tc := ⟨.hbm, 94, rfl⟩
abbrev main_v42 : Ref sig .tc := ⟨.hbm, 95, rfl⟩
abbrev main_cst_14 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_cst_15 : Ref sig .tc := ⟨.hbm, 100, rfl⟩
abbrev main_v46 : Ref sig .tc := ⟨.hbm, 101, rfl⟩
abbrev main_v47 : Ref sig .tc := ⟨.hbm, 102, rfl⟩
abbrev main_cst_16 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_cst_17 : Ref sig .tc := ⟨.hbm, 111, rfl⟩
abbrev main_v55 : Ref sig .tc := ⟨.hbm, 112, rfl⟩
abbrev main_v56 : Ref sig .tc := ⟨.hbm, 113, rfl⟩
abbrev main_call3_cst : Ref sig .tc := ⟨.hbm, 114, rfl⟩
abbrev main_call3_v0 : Ref sig .tc := ⟨.hbm, 115, rfl⟩
abbrev main_call3_cst_0 : Ref sig .tc := ⟨.hbm, 116, rfl⟩
abbrev main_call3_v1 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_v6 : Ref sig .tc := ⟨.hbm, 122, rfl⟩
abbrev main_call3_cst_1 : Ref sig .tc := ⟨.hbm, 123, rfl⟩
abbrev main_call3_v7 : Ref sig .tc := ⟨.hbm, 124, rfl⟩
abbrev main_call3_v8 : Ref sig .tc := ⟨.hbm, 125, rfl⟩
abbrev main_call3_v9 : Ref sig .tc := ⟨.hbm, 126, rfl⟩
abbrev main_call3_v10 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_cst_18 : Ref sig .tc := ⟨.hbm, 131, rfl⟩
abbrev main_v60 : Ref sig .tc := ⟨.hbm, 132, rfl⟩
abbrev main_cst_19 : Ref sig .tc := ⟨.hbm, 133, rfl⟩
abbrev main_v61 : Ref sig .tc := ⟨.hbm, 134, rfl⟩
abbrev main_cst_20 : Ref sig .tc := ⟨.hbm, 135, rfl⟩
abbrev main_v62 : Ref sig .tc := ⟨.hbm, 136, rfl⟩
abbrev main_cst_21 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_cst_22 : Ref sig .tc := ⟨.hbm, 141, rfl⟩
abbrev main_v66 : Ref sig .tc := ⟨.hbm, 142, rfl⟩
abbrev main_v67 : Ref sig .tc := ⟨.hbm, 143, rfl⟩
abbrev main_cst_23 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_cst_24 : Ref sig .tc := ⟨.hbm, 152, rfl⟩
abbrev main_v75 : Ref sig .tc := ⟨.hbm, 153, rfl⟩
abbrev main_v76 : Ref sig .tc := ⟨.hbm, 154, rfl⟩
abbrev main_call4_cst : Ref sig .tc := ⟨.hbm, 155, rfl⟩
abbrev main_call4_v0 : Ref sig .tc := ⟨.hbm, 156, rfl⟩
abbrev main_call4_cst_0 : Ref sig .tc := ⟨.hbm, 157, rfl⟩
abbrev main_call4_v1 : Ref sig .tc := ⟨.hbm, 158, rfl⟩
abbrev main_call4_v2 : Ref sig .tc := ⟨.hbm, 159, rfl⟩
abbrev main_call4_v3 : Ref sig .tc := ⟨.hbm, 160, rfl⟩
abbrev main_call4_v4 : Ref sig .tc := ⟨.hbm, 161, rfl⟩
abbrev main_call4_v5 : Ref sig .tc := ⟨.hbm, 162, rfl⟩
abbrev main_call4_v6 : Ref sig .tc := ⟨.hbm, 163, rfl⟩
abbrev main_call4_cst_1 : Ref sig .tc := ⟨.hbm, 164, rfl⟩
abbrev main_call4_v7 : Ref sig .tc := ⟨.hbm, 165, rfl⟩
abbrev main_call4_v8 : Ref sig .tc := ⟨.hbm, 166, rfl⟩
abbrev main_call4_v9 : Ref sig .tc := ⟨.hbm, 167, rfl⟩
abbrev main_call4_v10 : Ref sig .tc := ⟨.hbm, 168, rfl⟩
abbrev main_v77 : Ref sig .tc := ⟨.hbm, 169, rfl⟩
abbrev main_v78 : Ref sig .tc := ⟨.hbm, 170, rfl⟩
abbrev main_v79 : Ref sig .tc := ⟨.hbm, 171, rfl⟩
abbrev main_cst_25 : Ref sig .tc := ⟨.hbm, 172, rfl⟩
abbrev main_v80 : Ref sig .tc := ⟨.hbm, 173, rfl⟩
abbrev main_cst_26 : Ref sig .tc := ⟨.hbm, 174, rfl⟩
abbrev main_v81 : Ref sig .tc := ⟨.hbm, 175, rfl⟩
abbrev main_cst_27 : Ref sig .tc := ⟨.hbm, 176, rfl⟩
abbrev main_v82 : Ref sig .tc := ⟨.hbm, 177, rfl⟩
abbrev main_cst_28 : Ref sig .tc := ⟨.hbm, 178, rfl⟩
abbrev main_v83 : Ref sig .tc := ⟨.hbm, 179, rfl⟩
abbrev main_v84 : Ref sig .tc := ⟨.hbm, 180, rfl⟩
abbrev main_v85 : Ref sig .tc := ⟨.hbm, 181, rfl⟩
abbrev main_cst_29 : Ref sig .tc := ⟨.hbm, 182, rfl⟩
abbrev main_v86 : Ref sig .tc := ⟨.hbm, 183, rfl⟩
abbrev main_v87 : Ref sig .tc := ⟨.hbm, 184, rfl⟩
abbrev main_cst_30 : Ref sig .tc := ⟨.hbm, 185, rfl⟩
abbrev main_v88 : Ref sig .tc := ⟨.hbm, 186, rfl⟩
abbrev main_v89 : Ref sig .tc := ⟨.hbm, 187, rfl⟩
abbrev main_v90 : Ref sig .tc := ⟨.hbm, 188, rfl⟩
abbrev main_v91 : Ref sig .tc := ⟨.hbm, 189, rfl⟩
abbrev main_v92 : Ref sig .tc := ⟨.hbm, 190, rfl⟩
abbrev main_v93 : Ref sig .tc := ⟨.hbm, 191, rfl⟩
abbrev main_v94 : Ref sig .tc := ⟨.hbm, 192, rfl⟩
abbrev main_cst_31 : Ref sig .tc := ⟨.hbm, 193, rfl⟩
abbrev main_v95 : Ref sig .tc := ⟨.hbm, 194, rfl⟩
abbrev main_v96 : Ref sig .tc := ⟨.hbm, 195, rfl⟩
abbrev main_call5_cst : Ref sig .tc := ⟨.hbm, 196, rfl⟩
abbrev main_call5_v0 : Ref sig .tc := ⟨.hbm, 197, rfl⟩
abbrev main_call5_cst_0 : Ref sig .tc := ⟨.hbm, 198, rfl⟩
abbrev main_call5_v1 : Ref sig .tc := ⟨.hbm, 199, rfl⟩
abbrev main_call5_v2 : Ref sig .tc := ⟨.hbm, 200, rfl⟩
abbrev main_call5_v3 : Ref sig .tc := ⟨.hbm, 201, rfl⟩
abbrev main_call5_v4 : Ref sig .tc := ⟨.hbm, 202, rfl⟩
abbrev main_call5_v5 : Ref sig .tc := ⟨.hbm, 203, rfl⟩
abbrev main_call5_v6 : Ref sig .tc := ⟨.hbm, 204, rfl⟩
abbrev main_call5_cst_1 : Ref sig .tc := ⟨.hbm, 205, rfl⟩
abbrev main_call5_v7 : Ref sig .tc := ⟨.hbm, 206, rfl⟩
abbrev main_call5_v8 : Ref sig .tc := ⟨.hbm, 207, rfl⟩
abbrev main_call5_v9 : Ref sig .tc := ⟨.hbm, 208, rfl⟩
abbrev main_call5_v10 : Ref sig .tc := ⟨.hbm, 209, rfl⟩
abbrev main_v97 : Ref sig .tc := ⟨.hbm, 210, rfl⟩
abbrev main_v98 : Ref sig .tc := ⟨.hbm, 211, rfl⟩
abbrev main_v99 : Ref sig .tc := ⟨.hbm, 212, rfl⟩
abbrev main_cst_32 : Ref sig .tc := ⟨.hbm, 213, rfl⟩
abbrev main_v100 : Ref sig .tc := ⟨.hbm, 214, rfl⟩
abbrev main_cst_33 : Ref sig .tc := ⟨.hbm, 215, rfl⟩
abbrev main_v101 : Ref sig .tc := ⟨.hbm, 216, rfl⟩
abbrev main_cst_34 : Ref sig .tc := ⟨.hbm, 217, rfl⟩
abbrev main_v102 : Ref sig .tc := ⟨.hbm, 218, rfl⟩
abbrev main_cst_35 : Ref sig .tc := ⟨.hbm, 219, rfl⟩
abbrev main_v103 : Ref sig .tc := ⟨.hbm, 220, rfl⟩
abbrev main_v104 : Ref sig .tc := ⟨.hbm, 221, rfl⟩
abbrev main_v105 : Ref sig .tc := ⟨.hbm, 222, rfl⟩
abbrev main_cst_36 : Ref sig .tc := ⟨.hbm, 223, rfl⟩
abbrev main_v106 : Ref sig .tc := ⟨.hbm, 224, rfl⟩
abbrev main_v107 : Ref sig .tc := ⟨.hbm, 225, rfl⟩
abbrev main_cst_37 : Ref sig .tc := ⟨.hbm, 226, rfl⟩
abbrev main_v108 : Ref sig .tc := ⟨.hbm, 227, rfl⟩
abbrev main_v109 : Ref sig .tc := ⟨.hbm, 228, rfl⟩
abbrev main_v110 : Ref sig .tc := ⟨.hbm, 229, rfl⟩
abbrev main_v111 : Ref sig .tc := ⟨.hbm, 230, rfl⟩
abbrev main_v112 : Ref sig .tc := ⟨.hbm, 231, rfl⟩
abbrev main_v113 : Ref sig .tc := ⟨.hbm, 232, rfl⟩
abbrev main_v114 : Ref sig .tc := ⟨.hbm, 233, rfl⟩
abbrev main_cst_38 : Ref sig .tc := ⟨.hbm, 234, rfl⟩
abbrev main_v115 : Ref sig .tc := ⟨.hbm, 235, rfl⟩
abbrev main_v116 : Ref sig .tc := ⟨.hbm, 236, rfl⟩
abbrev main_call6_cst : Ref sig .tc := ⟨.hbm, 237, rfl⟩
abbrev main_call6_v0 : Ref sig .tc := ⟨.hbm, 238, rfl⟩
abbrev main_call6_cst_0 : Ref sig .tc := ⟨.hbm, 239, rfl⟩
abbrev main_call6_v1 : Ref sig .tc := ⟨.hbm, 240, rfl⟩
abbrev main_call6_v2 : Ref sig .tc := ⟨.hbm, 241, rfl⟩
abbrev main_call6_v3 : Ref sig .tc := ⟨.hbm, 242, rfl⟩
abbrev main_call6_v4 : Ref sig .tc := ⟨.hbm, 243, rfl⟩
abbrev main_call6_v5 : Ref sig .tc := ⟨.hbm, 244, rfl⟩
abbrev main_call6_v6 : Ref sig .tc := ⟨.hbm, 245, rfl⟩
abbrev main_call6_cst_1 : Ref sig .tc := ⟨.hbm, 246, rfl⟩
abbrev main_call6_v7 : Ref sig .tc := ⟨.hbm, 247, rfl⟩
abbrev main_call6_v8 : Ref sig .tc := ⟨.hbm, 248, rfl⟩
abbrev main_call6_v9 : Ref sig .tc := ⟨.hbm, 249, rfl⟩
abbrev main_call6_v10 : Ref sig .tc := ⟨.hbm, 250, rfl⟩
abbrev main_v117 : Ref sig .tc := ⟨.hbm, 251, rfl⟩
abbrev main_v118 : Ref sig .tc := ⟨.hbm, 252, rfl⟩
abbrev main_v119 : Ref sig .tc := ⟨.hbm, 253, rfl⟩
abbrev main_cst_39 : Ref sig .tc := ⟨.hbm, 254, rfl⟩
abbrev main_v120 : Ref sig .tc := ⟨.hbm, 255, rfl⟩
abbrev main_cst_40 : Ref sig .tc := ⟨.hbm, 256, rfl⟩
abbrev main_v121 : Ref sig .tc := ⟨.hbm, 257, rfl⟩
abbrev main_cst_41 : Ref sig .tc := ⟨.hbm, 258, rfl⟩
abbrev main_v122 : Ref sig .tc := ⟨.hbm, 259, rfl⟩
abbrev main_cst_42 : Ref sig .tc := ⟨.hbm, 260, rfl⟩
abbrev main_v123 : Ref sig .tc := ⟨.hbm, 261, rfl⟩
abbrev main_v124 : Ref sig .tc := ⟨.hbm, 262, rfl⟩
abbrev main_v125 : Ref sig .tc := ⟨.hbm, 263, rfl⟩
abbrev main_cst_43 : Ref sig .tc := ⟨.hbm, 264, rfl⟩
abbrev main_v126 : Ref sig .tc := ⟨.hbm, 265, rfl⟩
abbrev main_v127 : Ref sig .tc := ⟨.hbm, 266, rfl⟩
abbrev main_cst_44 : Ref sig .tc := ⟨.hbm, 267, rfl⟩
abbrev main_v128 : Ref sig .tc := ⟨.hbm, 268, rfl⟩
abbrev main_v129 : Ref sig .tc := ⟨.hbm, 269, rfl⟩
abbrev main_v130 : Ref sig .tc := ⟨.hbm, 270, rfl⟩
abbrev main_v131 : Ref sig .tc := ⟨.hbm, 271, rfl⟩
abbrev main_v132 : Ref sig .tc := ⟨.hbm, 272, rfl⟩
abbrev main_v133 : Ref sig .tc := ⟨.hbm, 273, rfl⟩
abbrev main_v134 : Ref sig .tc := ⟨.hbm, 274, rfl⟩
abbrev main_cst_45 : Ref sig .tc := ⟨.hbm, 275, rfl⟩
abbrev main_v135 : Ref sig .tc := ⟨.hbm, 276, rfl⟩
abbrev main_v136 : Ref sig .tc := ⟨.hbm, 277, rfl⟩
abbrev main_call7_cst : Ref sig .tc := ⟨.hbm, 278, rfl⟩
abbrev main_call7_v0 : Ref sig .tc := ⟨.hbm, 279, rfl⟩
abbrev main_call7_cst_0 : Ref sig .tc := ⟨.hbm, 280, rfl⟩
abbrev main_call7_v1 : Ref sig .tc := ⟨.hbm, 281, rfl⟩
abbrev main_call7_v2 : Ref sig .tc := ⟨.hbm, 282, rfl⟩
abbrev main_call7_v3 : Ref sig .tc := ⟨.hbm, 283, rfl⟩
abbrev main_call7_v4 : Ref sig .tc := ⟨.hbm, 284, rfl⟩
abbrev main_call7_v5 : Ref sig .tc := ⟨.hbm, 285, rfl⟩
abbrev main_call7_v6 : Ref sig .tc := ⟨.hbm, 286, rfl⟩
abbrev main_call7_cst_1 : Ref sig .tc := ⟨.hbm, 287, rfl⟩
abbrev main_call7_v7 : Ref sig .tc := ⟨.hbm, 288, rfl⟩
abbrev main_call7_v8 : Ref sig .tc := ⟨.hbm, 289, rfl⟩
abbrev main_call7_v9 : Ref sig .tc := ⟨.hbm, 290, rfl⟩
abbrev main_call7_v10 : Ref sig .tc := ⟨.hbm, 291, rfl⟩
abbrev main_v137 : Ref sig .tc := ⟨.hbm, 292, rfl⟩
abbrev main_v138 : Ref sig .tc := ⟨.hbm, 293, rfl⟩
abbrev main_v139 : Ref sig .tc := ⟨.hbm, 294, rfl⟩
abbrev main_cst_46 : Ref sig .tc := ⟨.hbm, 295, rfl⟩
abbrev main_v140 : Ref sig .tc := ⟨.hbm, 296, rfl⟩
abbrev main_cst_47 : Ref sig .tc := ⟨.hbm, 297, rfl⟩
abbrev main_v141 : Ref sig .tc := ⟨.hbm, 298, rfl⟩
abbrev main_cst_48 : Ref sig .tc := ⟨.hbm, 299, rfl⟩
abbrev main_v142 : Ref sig .tc := ⟨.hbm, 300, rfl⟩
abbrev main_cst_49 : Ref sig .tc := ⟨.hbm, 301, rfl⟩
abbrev main_v143 : Ref sig .tc := ⟨.hbm, 302, rfl⟩
abbrev main_v144 : Ref sig .tc := ⟨.hbm, 303, rfl⟩
abbrev main_v145 : Ref sig .tc := ⟨.hbm, 304, rfl⟩
abbrev main_cst_50 : Ref sig .tc := ⟨.hbm, 305, rfl⟩
abbrev main_v146 : Ref sig .tc := ⟨.hbm, 306, rfl⟩
abbrev main_v147 : Ref sig .tc := ⟨.hbm, 307, rfl⟩
abbrev main_cst_51 : Ref sig .tc := ⟨.hbm, 308, rfl⟩
abbrev main_v148 : Ref sig .tc := ⟨.hbm, 309, rfl⟩
abbrev main_v149 : Ref sig .tc := ⟨.hbm, 310, rfl⟩
abbrev main_v150 : Ref sig .tc := ⟨.hbm, 311, rfl⟩
abbrev main_v151 : Ref sig .tc := ⟨.hbm, 312, rfl⟩
abbrev main_v152 : Ref sig .tc := ⟨.hbm, 313, rfl⟩
abbrev main_v153 : Ref sig .tc := ⟨.hbm, 314, rfl⟩
abbrev main_v154 : Ref sig .tc := ⟨.hbm, 315, rfl⟩
abbrev main_cst_52 : Ref sig .tc := ⟨.hbm, 316, rfl⟩
abbrev main_v155 : Ref sig .tc := ⟨.hbm, 317, rfl⟩
abbrev main_v156 : Ref sig .tc := ⟨.hbm, 318, rfl⟩
abbrev main_call8_cst : Ref sig .tc := ⟨.hbm, 319, rfl⟩
abbrev main_call8_v0 : Ref sig .tc := ⟨.hbm, 320, rfl⟩
abbrev main_call8_cst_0 : Ref sig .tc := ⟨.hbm, 321, rfl⟩
abbrev main_call8_v1 : Ref sig .tc := ⟨.hbm, 322, rfl⟩
abbrev main_call8_v2 : Ref sig .tc := ⟨.hbm, 323, rfl⟩
abbrev main_call8_v3 : Ref sig .tc := ⟨.hbm, 324, rfl⟩
abbrev main_call8_v4 : Ref sig .tc := ⟨.hbm, 325, rfl⟩
abbrev main_call8_v5 : Ref sig .tc := ⟨.hbm, 326, rfl⟩
abbrev main_call8_v6 : Ref sig .tc := ⟨.hbm, 327, rfl⟩
abbrev main_call8_cst_1 : Ref sig .tc := ⟨.hbm, 328, rfl⟩
abbrev main_call8_v7 : Ref sig .tc := ⟨.hbm, 329, rfl⟩
abbrev main_call8_v8 : Ref sig .tc := ⟨.hbm, 330, rfl⟩
abbrev main_call8_v9 : Ref sig .tc := ⟨.hbm, 331, rfl⟩
abbrev main_call8_v10 : Ref sig .tc := ⟨.hbm, 332, rfl⟩
abbrev main_v157 : Ref sig .tc := ⟨.hbm, 333, rfl⟩
abbrev main_v158 : Ref sig .tc := ⟨.hbm, 334, rfl⟩
abbrev main_v159 : Ref sig .tc := ⟨.hbm, 335, rfl⟩
abbrev main_cst_53 : Ref sig .tc := ⟨.hbm, 336, rfl⟩
abbrev main_v160 : Ref sig .tc := ⟨.hbm, 337, rfl⟩
abbrev main_cst_54 : Ref sig .tc := ⟨.hbm, 338, rfl⟩
abbrev main_v161 : Ref sig .tc := ⟨.hbm, 339, rfl⟩
abbrev main_cst_55 : Ref sig .tc := ⟨.hbm, 340, rfl⟩
abbrev main_v162 : Ref sig .tc := ⟨.hbm, 341, rfl⟩
abbrev main_cst_56 : Ref sig .tc := ⟨.hbm, 342, rfl⟩
abbrev main_v163 : Ref sig .tc := ⟨.hbm, 343, rfl⟩
abbrev main_v164 : Ref sig .tc := ⟨.hbm, 344, rfl⟩

abbrev nD : Nat := 1
abbrev τ : Topo := Topo.v7x

variable {F : FTy → Type} [FloatOps F]
-- ==== Proof.KernelFrame.lean ====
/-
  The frame of the kernel as printed: from any memory it runs to the end without a fault, the six argument arrays
  end as they were, and every semaphore ends at zero. Nothing here reads what the kernel computes, so all four
  windows are forgotten and the scratch is held at some contents.
-/
module

public import proofs.«01_k».proof.Proof.Gen.Kernel.Frame
public import proofs.«01_k».proof.Proof.Gen.Kernel.Skeleton
public import Idealize.ShloMosaic.Lib.Tactic
public import Idealize.ShloMosaic.PureOps.BitExact

@[expose] public section

set_option maxRecDepth 16384

noncomputable section

namespace Cert.Proof.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A memref owned whole at some contents. -/
abbrev some_ (c : Dev nD) {sp : Space} {S : Shape} {e : EltTy} (M : Memref sig .tc sp S e) : sProp 𝕄 :=
  iprop(∃ d, owns (c : Thread nD τ) M fullShare d)

/-- Everything the body touches: four staging buffers and four scratch buffers, each at some contents. -/
abbrev held (c : Dev nD) (M1 : Memref sig .tc .vmem S64x128 .f32) (M2 : Memref sig .tc .vmem S4096x128 .f32)
    (M3 : Memref sig .tc .vmem S64x4096 .f32) (M4 : Memref sig .tc .vmem S1x1x1 .f32)
    (M5 : Memref sig .tc .vmem S64x1 .f32) (M6 : Memref sig .tc .vmem S64x128 .f32)
    (M7 M8 : Memref sig .tc .vmem S64x1 .f32) : sProp 𝕄 :=
  iprop(some_ (F := F) c M1 ∗ some_ (F := F) c M2 ∗ some_ (F := F) c M3 ∗ some_ (F := F) c M4 ∗ some_ (F := F) c M5
    ∗ some_ (F := F) c M6 ∗ some_ (F := F) c M7 ∗ some_ (F := F) c M8)

/-- The body, on any whole buffers at any contents, runs to its end and gives the same buffers back. -/
theorem bodyRun (c : Dev nD) (i : grid0.Coords) (M1 : Memref sig .tc .vmem S64x128 .f32) (h1 : M1.IsWhole)
    (M2 : Memref sig .tc .vmem S4096x128 .f32) (h2 : M2.IsWhole) (M3 : Memref sig .tc .vmem S64x4096 .f32) (h3 : M3.IsWhole)
    (M4 : Memref sig .tc .vmem S1x1x1 .f32) (h4 : M4.IsWhole) (M5 : Memref sig .tc .vmem S64x1 .f32) (h5 : M5.IsWhole)
    (M6 : Memref sig .tc .vmem S64x128 .f32) (h6 : M6.IsWhole) (M7 : Memref sig .tc .vmem S64x1 .f32) (h7 : M7.IsWhole)
    (M8 : Memref sig .tc .vmem S64x1 .f32) (h8 : M8.IsWhole) (E : Set ℕ) (K : PUnit → sProp 𝕄) :
    iprop(held (F := F) c M1 M2 M3 M4 M5 M6 M7 M8 ∗ (held (F := F) c M1 M2 M3 M4 M5 M6 M7 M8 -∗ K ⟨⟩))
      ⊢ wp frame (wpE (defs₀ (F := F)) Variants.none c none) E
          (cc0__loss_kernel i M1 h1 M2 h2 M3 h3 M4 h4 M5 h5 M6 h6 M7 h7 M8 h8) K := by
  unfold held some_ owns
  iintro ⟨⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩⟩, Hk⟩
  sl_unfold [cc0__loss_kernel]
  sl_exec!
  sl_step
  iapply Hk
  isplitl [H1]; · iexists _, _; isplitr; swap; · iexact H1
                  ipureintro; rfl
  isplitl [H2]; · iexists _, _; isplitr; swap; · iexact H2
                  ipureintro; rfl
  isplitl [H3]; · iexists _, _; isplitr; swap; · iexact H3
                  ipureintro; rfl
  isplitl [H4]; · iexists _, _; isplitr; swap; · iexact H4
                  ipureintro; rfl
  isplitl [H5]; · iexists _, _; isplitr; swap; · iexact H5
                  ipureintro; rfl
  isplitl [H6]; · iexists _, _; isplitr; swap; · iexact H6
                  ipureintro; rfl
  isplitl [H7]; · iexists _, _; isplitr; swap; · iexact H7
                  ipureintro; rfl
  iexists _, _; isplitr; swap; · iexact H8
  ipureintro; rfl

/-- The proof data: the arrays as the region finds them, what the body leaves unnamed, the scratch at some contents. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := ΦA spec0 c
  q _ := fullShare
  owed _ := 0

/-- Every window is forgotten. -/
def forgets : Fin 4 → Bool := fun _ => true

/-- The arrays the windows start from are the contents the launch finds. -/
theorem A_eq (c : Dev nD) (w : Fin cfg0.W) : (dats m 0 c).A w = V m c (Pipeline.arrRef spec0 w) := by dsimp only [dats]

/-- The body obligation: the scratch is opened, the body is run on it and on the four staging buffers. -/
theorem body_obligation (c : Dev nD) :
    BodyObligationLoose (dats (F := F) m 0 c) (defs₀ (F := F)) Variants.none () Set.univ forgets := fun t => by
  rw [bigSep_W0, bigSep_W0]
  sl_whnfR [defs₀, Defs.onTc]
  rw [show (dats m 0 c).Φ t.succ = (dats m 0 c).Φ t.castSucc from rfl,
    show (dats m 0 c).owesAt () t.succ = (dats m 0 c).owesAt () t.castSucc from rfl,
    show (dats m 0 c).Φ t.castSucc = ΦA spec0 c from rfl]
  unfold ΦA
  rw [scopedRest0_eq]
  simp only [← owns_whole]
  dsimp only [forgets]
  iintro ⟨⟨⟨H5, H6, H7, H8⟩, Hg⟩, Ho, H1, H2, H3, H4⟩
  iapply (bodyRun c _ _ _ _ _ _ _ _ _ _ _ _ _ _ _ _ _ Set.univ _)
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro ⟨H1, H2, H3, H4, H5, H6, H7, H8⟩
  isplitl [Hg H5 H6 H7 H8]
  · isplitl [H5 H6 H7 H8]
    · isplitl [H5]; · iexact H5
      isplitl [H6]; · iexact H6
      isplitl [H7]; · iexact H7
      iexact H8
    iexact Hg
  isplitl [Ho]; · iexact Ho
  isplitl [H1]; · iexact H1
  isplitl [H2]; · iexact H2
  isplitl [H3]; · iexact H3
  iexact H4

/-- The buffers the host operations after the region write. -/
def tailWrites : Finset (Ref sig .tc) := {main_cst, main_v1, main_v2}

/-- Each host operation after the region writes one of `tailWrites`. -/
theorem tail_writes : ∀ ops ∈ ([hostOps1] : List (List (HloOp τ sig (Elt F)))), ∀ op ∈ ops, ∀ b : Ref sig .tc,
    Proc.devRef .tc b ∈ op.writes → b ∈ tailWrites := by
  intro ops hops op hop b hb
  simp only [List.mem_cons, List.mem_nil_iff, or_false] at hops
  subst hops
  simp only [hostOps1, List.mem_cons, List.mem_nil_iff, or_false] at hop
  rcases hop with rfl | rfl | rfl <;>
    simp only [StableHlo.nullary_writes, StableHlo.unary_writes, StableHlo.binary_writes, StableHlo.reshape_writes, Finset.mem_singleton] at hb <;>
    (have hb' := Proc.devRef_injective _ hb; subst hb'; decide)

set_option backward.isDefEq.respectTransparency.types false in
/-- From any memory with its semaphores at zero, the program runs to its end: the argument arrays end as launched
    and every semaphore ends at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  Pipeline.θ_run_frame_around_T_forget (Q' := _) cfgs (dats m) (0 : Fin 1) launch0 defs₀ Variants.none forgets tailWrites m ρ main
    (hbody := fun c => body_obligation m c) (hshare := fun c => (dats m 0 c).share_full fun _ => rfl) (howed := fun _ _ => rfl)
    (V₀ := V0 m) (opss := [hostOps1]) (hsub := sfx_sub) (hfresh := sfx_fresh) (hkeep := sfx_keeps) (hT := tail_writes)
    (hmain := hmain m Variants.none) (hA := A_eq m) (hΦ := fun _ _ => rfl)
    (hQ' := fun r h => ⟨fun c =>
      ⟨(h.1.arr_in c 0 rfl).trans ((A_eq m c 0).trans (V_main_arg0 m c)),
       ((h.1 c).2 main_arg1 (by decide)).trans (V_main_arg1 m c),
       ((h.1 c).2 main_arg2 (by decide)).trans (V_main_arg2 m c),
       ((h.1 c).2 main_arg3 (by decide)).trans (V_main_arg3 m c),
       (h.1.arr_in c 2 rfl).trans ((A_eq m c 2).trans (V_main_arg4 m c)),
       (h.1.arr_in c 1 rfl).trans ((A_eq m c 1).trans (V_main_arg5 m c))⟩, h.2⟩)

end Cert.Proof.KernelFrame

end
-- ==== Proof.Body.lean ====
module

public import proofs.«01_k».proof.Proof.Gen.KernelIdeal.Frame
public import proofs.«01_k».proof.Proof.Gen.KernelIdeal.Skeleton
public import Idealize.ShloMosaic.Lib.Tactic
public import Idealize.ShloMosaic.Lib.Pipeline.Value

@[expose] public section

set_option maxRecDepth 16384

noncomputable section

/-! The kernel's body, run once for each kind of grid point: what it leaves in the output block and in the four
scratch accumulators, as functions of what it found there. -/

namespace Cert.Proof.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The global column of the block's first column, as the kernel's word. -/
def colW (i : grid0.Coords) : BitVec 32 := Scalar.muli (BitVec.ofNat 32 (i 0).val) 4096#32
/-- The kernel's test that this is the first grid point. -/
def firstW (i : grid0.Coords) : BitVec 1 := Scalar.cmpi .ne (Scalar.extui (Scalar.cmpi .eq (BitVec.ofNat 32 (i 0).val) 0#32) : BitVec 32) 0#32

/-- The first column past the block's segment, as the kernel's word. -/
def nextW (i : grid0.Coords) : BitVec 32 :=
  Scalar.muli (Scalar.addi (Scalar.select
    (Scalar.andi (Scalar.cmpi .ne
        (Scalar.subi (Scalar.extui (Scalar.cmpi .sgt (colW i) 0#32)) (Scalar.extui (Scalar.cmpi .slt (colW i) 0#32)))
        (Scalar.subi (Scalar.extui (Scalar.cmpi .sgt 12500#32 0#32)) (Scalar.extui (Scalar.cmpi .slt 12500#32 0#32)) : BitVec 32))
      (Scalar.cmpi .ne (Scalar.remsi (colW i) 12500#32) 0#32))
    (Scalar.subi (Scalar.divsi (colW i) 12500#32) 1#32) (Scalar.divsi (colW i) 12500#32)) 1#32) 12500#32
/-- The kernel's test that the block lies within one segment. -/
def innerW (i : grid0.Coords) : BitVec 1 :=
  Scalar.cmpi .ne (Scalar.extui (Scalar.xori (Scalar.cmpi .slt (nextW i) (Scalar.addi (colW i) 4096#32)) 1#1) : BitVec 32) 0#32

/-- The four scratch accumulators: the sum of exponentials, the label-weighted sum of memory rows, the sum of labels and
    the greatest label, per row of the batch. -/
@[ext] structure Acc (F : FTy → Type) where
  s : Vec F S64x1 .f32
  d : Vec F S64x128 .f32
  l : Vec F S64x1 .f32
  u : Vec F S64x1 .f32

/-- The accumulators as the kernel resets them. -/
def Acc.reset : Acc F := ⟨k0_pay18, k0_pay19, k0_pay20, k0_pay21⟩
/-- A whole block added to the accumulators. -/
def Acc.whole (x : Vec F S64x128 .f32) (em : Vec F S4096x128 .f32) (lab : Vec F S64x4096 .f32) (a : Acc F) : Acc F :=
  ⟨k0_pay2 (k0_pay33 x) em a.s, k0_pay3 em lab a.d, k0_pay4 lab a.l, k0_pay5 lab a.u⟩
/-- The block's columns before `hi` added to the accumulators. -/
def Acc.left (lo hi : BitVec 32) (x : Vec F S64x128 .f32) (em : Vec F S4096x128 .f32) (lab : Vec F S64x4096 .f32) (a : Acc F) : Acc F :=
  ⟨k0_pay11 lo hi (k0_pay1 (k0_pay33 x) em) a.s, k0_pay13 (k0_pay12 lo hi em lab a.d), k0_pay14 (k0_pay9 lo hi lab) a.l,
    k0_pay15 (k0_pay10 lo hi lab) a.u⟩
/-- The block's columns from `hi` on (and within the array) added to the accumulators. -/
def Acc.right (lo hi : BitVec 32) (x : Vec F S64x128 .f32) (em : Vec F S4096x128 .f32) (lab : Vec F S64x4096 .f32) (a : Acc F) : Acc F :=
  ⟨k0_pay26 (k0_pay1 (k0_pay33 x) em) (k0_pay22 lo hi) a.s, k0_pay27 em lab (k0_pay22 lo hi) (k0_pay23 lo hi) a.d,
    k0_pay6 (k0_pay28 lab (k0_pay22 lo hi) a.l), k0_pay7 (k0_pay25 lab (k0_pay22 lo hi)) a.u⟩
/-- The segment's loss, from the finished accumulators. -/
def Acc.emit (x : Vec F S64x128 .f32) (a : Acc F) : Vec F S1x1x1 .f32 := k0_pay17 (k0_pay16 (k0_pay33 x) a.s a.d a.l a.u)

/-- The accumulators held in four scratch buffers. -/
def scr (c : Dev nD) (M5 : Memref sig .tc .vmem S64x1 .f32) (M6 : Memref sig .tc .vmem S64x128 .f32) (M7 M8 : Memref sig .tc .vmem S64x1 .f32)
    (a : Acc F) : sProp 𝕄 :=
  iprop(owns (c : Thread nD τ) M5 fullShare a.s ∗ owns (c : Thread nD τ) M6 fullShare a.d
    ∗ owns (c : Thread nD τ) M7 fullShare a.l ∗ owns (c : Thread nD τ) M8 fullShare a.u)

section Reads

variable {Val : EltTy → Type} {S : Shape} {e : EltTy} {sg : RefSig} {κ' : Kind} {sp : Space}

/-- After a store through the whole-shape rectangle, a view reads that store's payload. -/
theorem read_over [∀ e, Nonempty (Val e)] (v : View sg κ' sp S e) (f : v.ty.Contents Val) {off : Fin S.rank → Nat}
    (inb : ∀ a, off a + S.size a ≤ S.size a) (w : S.Idx → Val e) (L : List (View.Piece Val S e)) (h : off = fun _ => 0) :
    v.read Val (v.writes Val f ((⟨Rect.unit off (no_index S.size) inb, w⟩ : View.Piece Val S e) :: L)) = w := by
  subst h
  rw [View.read_writes_eq_canon _ _ _ (fun y => ⟨_, List.mem_cons_self, by
    show y ∈ (Rect.whole S).set; rw [Rect.set_whole]; exact Finset.mem_univ y⟩), View.canon_cons_unit_zero rfl]

/-- A load of the whole shape reads what the buffer holds. -/
theorem load_whole (m : Memref sg κ' sp S e) (hm : m.IsWhole) (X : S.Idx → Val e) {off : Fin S.rank → Nat}
    (inb : ∀ a, off a + S.size a ≤ S.size a) (h : off = fun _ => 0) :
    View.readAt Val m.view (Rect.unit off (no_index S.size) inb).toLoadRect (hm.unread X) = X := by
  rw [View.readAt_eq_ld, hm.read_unread, View.ld_unit_zero h]

end Reads

/-- Two zero offsets are the zero offset. -/
theorem hz : (![0, 0] : Fin 2 → Nat) = fun _ => 0 := funext fun a => by fin_cases a <;> rfl
/-- Three zero offsets are the zero offset. -/
theorem hz3 : (![0, 0, 0] : Fin 3 → Nat) = fun _ => 0 := funext fun a => by fin_cases a <;> rfl

/-- At a later point whose block lies within one segment, the body adds the block to the accumulators. -/
theorem runInner (c : Dev nD) (i : grid0.Coords) (hfirst : ¬ firstW i = 1#1) (hin : innerW i = 1#1) (hb : ¬ k0_cond3 i = 1#1)
    (M1 : Memref sig .tc .vmem S64x128 .f32) (h1 : M1.IsWhole)
    (M2 : Memref sig .tc .vmem S4096x128 .f32) (h2 : M2.IsWhole) (M3 : Memref sig .tc .vmem S64x4096 .f32) (h3 : M3.IsWhole)
    (M4 : Memref sig .tc .vmem S1x1x1 .f32) (h4 : M4.IsWhole) (M5 : Memref sig .tc .vmem S64x1 .f32) (h5 : M5.IsWhole)
    (M6 : Memref sig .tc .vmem S64x128 .f32) (h6 : M6.IsWhole) (M7 : Memref sig .tc .vmem S64x1 .f32) (h7 : M7.IsWhole)
    (M8 : Memref sig .tc .vmem S64x1 .f32) (h8 : M8.IsWhole) (E : Set ℕ) (K : PUnit → sProp 𝕄)
    (x : Vec F S64x128 .f32) (em : Vec F S4096x128 .f32) (lab : Vec F S64x4096 .f32) (o : Vec F S1x1x1 .f32) (a : Acc F) :
    iprop(owns (c : Thread nD τ) M1 fullShare x ∗ owns (c : Thread nD τ) M2 fullShare em ∗ owns (c : Thread nD τ) M3 fullShare lab
      ∗ owns (c : Thread nD τ) M4 fullShare o ∗ scr c M5 M6 M7 M8 a
      ∗ (iprop(owns (c : Thread nD τ) M1 fullShare x ∗ owns (c : Thread nD τ) M2 fullShare em ∗ owns (c : Thread nD τ) M3 fullShare lab
        ∗ owns (c : Thread nD τ) M4 fullShare o ∗ scr c M5 M6 M7 M8 (Acc.whole x em lab a)) -∗ K ⟨⟩))
      ⊢ wp frame (wpE (defs₀ (F := F)) Variants.none c none) E
          (cc0__loss_kernel i M1 h1 M2 h2 M3 h3 M4 h4 M5 h5 M6 h6 M7 h7 M8 h8) K := by
  unfold firstW at hfirst
  unfold innerW nextW colW at hin
  obtain ⟨s, d, l, u⟩ := a
  unfold scr owns
  iintro ⟨⟨%f1, %e1, H1⟩, ⟨%f2, %e2, H2⟩, ⟨%f3, %e3, H3⟩, ⟨%f4, %e4, H4⟩, ⟨⟨%f5, %e5, H5⟩, ⟨%f6, %e6, H6⟩, ⟨%f7, %e7, H7⟩, ⟨%f8, %e8, H8⟩⟩, Hk⟩
  obtain rfl := h1.eq_unread e1; obtain rfl := h2.eq_unread e2; obtain rfl := h3.eq_unread e3; obtain rfl := h4.eq_unread e4
  obtain rfl := h5.eq_unread e5; obtain rfl := h6.eq_unread e6; obtain rfl := h7.eq_unread e7; obtain rfl := h8.eq_unread e8
  sl_unfold [cc0__loss_kernel]
  sl_exec
  sl_step
  iapply Hk
  isplitl [H1]; · iexists _; isplitr; · ipureintro; exact e1
                  iexact H1
  isplitl [H2]; · iexists _; isplitr; · ipureintro; exact e2
                  iexact H2
  isplitl [H3]; · iexists _; isplitr; · ipureintro; exact e3
                  iexact H3
  isplitl [H4]
  · iexists _
    isplitr; swap; · iexact H4
    ipureintro
    exact e4
  isplitl [H5]
  · iexists _
    isplitr; swap; · iexact H5
    ipureintro
    refine (read_over (S := S64x1) _ _ _ _ _ hz).trans ?_
    sl_unfold_run_names
    simp only [View.readCov_cons_toLoadRect, load_whole (S := S64x1) _ _ _ _ hz, load_whole (S := S64x128) _ _ _ _ hz,
      load_whole (S := S4096x128) _ _ _ _ hz, load_whole (S := S64x4096) _ _ _ _ hz]
    rfl
  isplitl [H6]
  · iexists _
    isplitr; swap; · iexact H6
    ipureintro
    refine (read_over (S := S64x128) _ _ _ _ _ hz).trans ?_
    sl_unfold_run_names
    simp only [View.readCov_cons_toLoadRect, load_whole (S := S64x1) _ _ _ _ hz, load_whole (S := S64x128) _ _ _ _ hz,
      load_whole (S := S4096x128) _ _ _ _ hz, load_whole (S := S64x4096) _ _ _ _ hz]
    rfl
  isplitl [H7]
  · iexists _
    isplitr; swap; · iexact H7
    ipureintro
    refine (read_over (S := S64x1) _ _ _ _ _ hz).trans ?_
    sl_unfold_run_names
    simp only [View.readCov_cons_toLoadRect, load_whole (S := S64x1) _ _ _ _ hz, load_whole (S := S64x128) _ _ _ _ hz,
      load_whole (S := S4096x128) _ _ _ _ hz, load_whole (S := S64x4096) _ _ _ _ hz]
    rfl
  iexists _
  isplitr; swap; · iexact H8
  ipureintro
  refine (read_over (S := S64x1) _ _ _ _ _ hz).trans ?_
  sl_unfold_run_names
  simp only [View.readCov_cons_toLoadRect, load_whole (S := S64x1) _ _ _ _ hz, load_whole (S := S64x128) _ _ _ _ hz,
    load_whole (S := S4096x128) _ _ _ _ hz, load_whole (S := S64x4096) _ _ _ _ hz]
  rfl

/-- At the first point the body resets the accumulators and adds the block. -/
theorem runFirst (c : Dev nD) (i : grid0.Coords) (hfirst : firstW i = 1#1) (hin : innerW i = 1#1) (hb : ¬ k0_cond3 i = 1#1)
    (M1 : Memref sig .tc .vmem S64x128 .f32) (h1 : M1.IsWhole)
    (M2 : Memref sig .tc .vmem S4096x128 .f32) (h2 : M2.IsWhole) (M3 : Memref sig .tc .vmem S64x4096 .f32) (h3 : M3.IsWhole)
    (M4 : Memref sig .tc .vmem S1x1x1 .f32) (h4 : M4.IsWhole) (M5 : Memref sig .tc .vmem S64x1 .f32) (h5 : M5.IsWhole)
    (M6 : Memref sig .tc .vmem S64x128 .f32) (h6 : M6.IsWhole) (M7 : Memref sig .tc .vmem S64x1 .f32) (h7 : M7.IsWhole)
    (M8 : Memref sig .tc .vmem S64x1 .f32) (h8 : M8.IsWhole) (E : Set ℕ) (K : PUnit → sProp 𝕄)
    (x : Vec F S64x128 .f32) (em : Vec F S4096x128 .f32) (lab : Vec F S64x4096 .f32) (o : Vec F S1x1x1 .f32) (a : Acc F) :
    iprop(owns (c : Thread nD τ) M1 fullShare x ∗ owns (c : Thread nD τ) M2 fullShare em ∗ owns (c : Thread nD τ) M3 fullShare lab
      ∗ owns (c : Thread nD τ) M4 fullShare o ∗ scr c M5 M6 M7 M8 a
      ∗ (iprop(owns (c : Thread nD τ) M1 fullShare x ∗ owns (c : Thread nD τ) M2 fullShare em ∗ owns (c : Thread nD τ) M3 fullShare lab
        ∗ owns (c : Thread nD τ) M4 fullShare o ∗ scr c M5 M6 M7 M8 (Acc.whole x em lab Acc.reset)) -∗ K ⟨⟩))
      ⊢ wp frame (wpE (defs₀ (F := F)) Variants.none c none) E
          (cc0__loss_kernel i M1 h1 M2 h2 M3 h3 M4 h4 M5 h5 M6 h6 M7 h7 M8 h8) K := by
  unfold firstW at hfirst
  unfold innerW nextW colW at hin
  obtain ⟨s, d, l, u⟩ := a
  unfold scr owns
  iintro ⟨⟨%f1, %e1, H1⟩, ⟨%f2, %e2, H2⟩, ⟨%f3, %e3, H3⟩, ⟨%f4, %e4, H4⟩, ⟨⟨%f5, %e5, H5⟩, ⟨%f6, %e6, H6⟩, ⟨%f7, %e7, H7⟩, ⟨%f8, %e8, H8⟩⟩, Hk⟩
  obtain rfl := h1.eq_unread e1; obtain rfl := h2.eq_unread e2; obtain rfl := h3.eq_unread e3; obtain rfl := h4.eq_unread e4
  obtain rfl := h5.eq_unread e5; obtain rfl := h6.eq_unread e6; obtain rfl := h7.eq_unread e7; obtain rfl := h8.eq_unread e8
  sl_unfold [cc0__loss_kernel]
  sl_exec
  sl_step
  iapply Hk
  isplitl [H1]; · iexists _; isplitr; · ipureintro; exact e1
                  iexact H1
  isplitl [H2]; · iexists _; isplitr; · ipureintro; exact e2
                  iexact H2
  isplitl [H3]; · iexists _; isplitr; · ipureintro; exact e3
                  iexact H3
  isplitl [H4]
  · iexists _
    isplitr; swap; · iexact H4
    ipureintro
    exact e4
  isplitl [H5]
  · iexists _
    isplitr; swap; · iexact H5
    ipureintro
    refine (read_over (S := S64x1) _ _ _ _ _ hz).trans ?_
    sl_unfold_run_names
    simp only [View.readCov_cons_toLoadRect, load_whole (S := S64x1) _ _ _ _ hz, load_whole (S := S64x128) _ _ _ _ hz,
      load_whole (S := S4096x128) _ _ _ _ hz, load_whole (S := S64x4096) _ _ _ _ hz]
    rfl
  isplitl [H6]
  · iexists _
    isplitr; swap; · iexact H6
    ipureintro
    refine (read_over (S := S64x128) _ _ _ _ _ hz).trans ?_
    sl_unfold_run_names
    simp only [View.readCov_cons_toLoadRect, load_whole (S := S64x1) _ _ _ _ hz, load_whole (S := S64x128) _ _ _ _ hz,
      load_whole (S := S4096x128) _ _ _ _ hz, load_whole (S := S64x4096) _ _ _ _ hz]
    rfl
  isplitl [H7]
  · iexists _
    isplitr; swap; · iexact H7
    ipureintro
    refine (read_over (S := S64x1) _ _ _ _ _ hz).trans ?_
    sl_unfold_run_names
    simp only [View.readCov_cons_toLoadRect, load_whole (S := S64x1) _ _ _ _ hz, load_whole (S := S64x128) _ _ _ _ hz,
      load_whole (S := S4096x128) _ _ _ _ hz, load_whole (S := S64x4096) _ _ _ _ hz]
    rfl
  iexists _
  isplitr; swap; · iexact H8
  ipureintro
  refine (read_over (S := S64x1) _ _ _ _ _ hz).trans ?_
  sl_unfold_run_names
  simp only [View.readCov_cons_toLoadRect, load_whole (S := S64x1) _ _ _ _ hz, load_whole (S := S64x128) _ _ _ _ hz,
    load_whole (S := S4096x128) _ _ _ _ hz, load_whole (S := S64x4096) _ _ _ _ hz]
  rfl

/-- At a point whose block crosses a segment's end, the body finishes the segment, stores its loss, and starts the next
    one. -/
theorem runEdge (c : Dev nD) (i : grid0.Coords) (hfirst : ¬ firstW i = 1#1) (hin : ¬ innerW i = 1#1) (hb : k0_cond3 i = 1#1)
    (M1 : Memref sig .tc .vmem S64x128 .f32) (h1 : M1.IsWhole)
    (M2 : Memref sig .tc .vmem S4096x128 .f32) (h2 : M2.IsWhole) (M3 : Memref sig .tc .vmem S64x4096 .f32) (h3 : M3.IsWhole)
    (M4 : Memref sig .tc .vmem S1x1x1 .f32) (h4 : M4.IsWhole) (M5 : Memref sig .tc .vmem S64x1 .f32) (h5 : M5.IsWhole)
    (M6 : Memref sig .tc .vmem S64x128 .f32) (h6 : M6.IsWhole) (M7 : Memref sig .tc .vmem S64x1 .f32) (h7 : M7.IsWhole)
    (M8 : Memref sig .tc .vmem S64x1 .f32) (h8 : M8.IsWhole) (E : Set ℕ) (K : PUnit → sProp 𝕄)
    (x : Vec F S64x128 .f32) (em : Vec F S4096x128 .f32) (lab : Vec F S64x4096 .f32) (o : Vec F S1x1x1 .f32) (a : Acc F) :
    iprop(owns (c : Thread nD τ) M1 fullShare x ∗ owns (c : Thread nD τ) M2 fullShare em ∗ owns (c : Thread nD τ) M3 fullShare lab
      ∗ owns (c : Thread nD τ) M4 fullShare o ∗ scr c M5 M6 M7 M8 a
      ∗ (iprop(owns (c : Thread nD τ) M1 fullShare x ∗ owns (c : Thread nD τ) M2 fullShare em ∗ owns (c : Thread nD τ) M3 fullShare lab
        ∗ owns (c : Thread nD τ) M4 fullShare (Acc.emit x (Acc.left (colW i) (nextW i) x em lab a)) ∗ scr c M5 M6 M7 M8 (Acc.right (colW i) (nextW i) x em lab Acc.reset)) -∗ K ⟨⟩))
      ⊢ wp frame (wpE (defs₀ (F := F)) Variants.none c none) E
          (cc0__loss_kernel i M1 h1 M2 h2 M3 h3 M4 h4 M5 h5 M6 h6 M7 h7 M8 h8) K := by
  unfold firstW at hfirst
  unfold innerW nextW colW at hin
  obtain ⟨s, d, l, u⟩ := a
  unfold scr owns
  iintro ⟨⟨%f1, %e1, H1⟩, ⟨%f2, %e2, H2⟩, ⟨%f3, %e3, H3⟩, ⟨%f4, %e4, H4⟩, ⟨⟨%f5, %e5, H5⟩, ⟨%f6, %e6, H6⟩, ⟨%f7, %e7, H7⟩, ⟨%f8, %e8, H8⟩⟩, Hk⟩
  obtain rfl := h1.eq_unread e1; obtain rfl := h2.eq_unread e2; obtain rfl := h3.eq_unread e3; obtain rfl := h4.eq_unread e4
  obtain rfl := h5.eq_unread e5; obtain rfl := h6.eq_unread e6; obtain rfl := h7.eq_unread e7; obtain rfl := h8.eq_unread e8
  sl_unfold [cc0__loss_kernel]
  sl_exec
  sl_step
  iapply Hk
  isplitl [H1]; · iexists _; isplitr; · ipureintro; exact e1
                  iexact H1
  isplitl [H2]; · iexists _; isplitr; · ipureintro; exact e2
                  iexact H2
  isplitl [H3]; · iexists _; isplitr; · ipureintro; exact e3
                  iexact H3
  isplitl [H4]
  · iexists _
    isplitr; swap; · iexact H4
    ipureintro
    refine (read_over (S := S1x1x1) _ _ _ _ _ hz3).trans ?_
    sl_unfold_run_names
    simp only [View.readCov_cons_toLoadRect, load_whole (S := S64x1) _ _ _ _ hz, load_whole (S := S64x128) _ _ _ _ hz,
      load_whole (S := S4096x128) _ _ _ _ hz, load_whole (S := S64x4096) _ _ _ _ hz]
    rfl
  isplitl [H5]
  · iexists _
    isplitr; swap; · iexact H5
    ipureintro
    refine (read_over (S := S64x1) _ _ _ _ _ hz).trans ?_
    sl_unfold_run_names
    simp only [View.readCov_cons_toLoadRect, load_whole (S := S64x1) _ _ _ _ hz, load_whole (S := S64x128) _ _ _ _ hz,
      load_whole (S := S4096x128) _ _ _ _ hz, load_whole (S := S64x4096) _ _ _ _ hz]
    rfl
  isplitl [H6]
  · iexists _
    isplitr; swap; · iexact H6
    ipureintro
    refine (read_over (S := S64x128) _ _ _ _ _ hz).trans ?_
    sl_unfold_run_names
    simp only [View.readCov_cons_toLoadRect, load_whole (S := S64x1) _ _ _ _ hz, load_whole (S := S64x128) _ _ _ _ hz,
      load_whole (S := S4096x128) _ _ _ _ hz, load_whole (S := S64x4096) _ _ _ _ hz]
    rfl
  isplitl [H7]
  · iexists _
    isplitr; swap; · iexact H7
    ipureintro
    refine (read_over (S := S64x1) _ _ _ _ _ hz).trans ?_
    sl_unfold_run_names
    simp only [View.readCov_cons_toLoadRect, load_whole (S := S64x1) _ _ _ _ hz, load_whole (S := S64x128) _ _ _ _ hz,
      load_whole (S := S4096x128) _ _ _ _ hz, load_whole (S := S64x4096) _ _ _ _ hz]
    rfl
  iexists _
  isplitr; swap; · iexact H8
  ipureintro
  refine (read_over (S := S64x1) _ _ _ _ _ hz).trans ?_
  sl_unfold_run_names
  simp only [View.readCov_cons_toLoadRect, load_whole (S := S64x1) _ _ _ _ hz, load_whole (S := S64x128) _ _ _ _ hz,
    load_whole (S := S4096x128) _ _ _ _ hz, load_whole (S := S64x4096) _ _ _ _ hz]
  rfl

end Cert.Proof.Body

end
-- ==== Proof.Consts.lean ====
module

public import proofs.«01_k».proof.Proof.Body
public import Idealize.ShloMosaic.Lib.Pointwise
public import Idealize.ShloMosaic.PureOps.Ideal
public import Idealize.ShloMosaic.PureOps.IdealRules

@[expose] public section

set_option maxRecDepth 16384

noncomputable section

/-! The constants of both programs, read as extended reals. -/

namespace Cert.Proof.Consts

open Idealize.ShloMosaic

/-- The inverse temperature: the exact inverse of the temperature's float. -/
def ib : ℝ := 268435456 / 13421773
/-- The least norm divided by. -/
def tiny : ℝ := 9223372 / 2 ^ 63
/-- What is added to a row's greatest label. -/
def eps : ℝ := 12379400 / 2 ^ 90

/-- The inverse temperature is positive. -/
theorem ib_pos : 0 < ib := by unfold ib; norm_num
/-- The least norm is positive. -/
theorem tiny_pos : 0 < tiny := by unfold tiny; norm_num
/-- What is added to the greatest label is positive. -/
theorem eps_pos : 0 < eps := by unfold eps; norm_num

/-- The kernel's named scale is the inverse temperature. -/
theorem named_ib : Named.named (F := Ideal) Cert.KernelIdeal.κ "inv_beta" (φ := .f32) 0x41A00000#32 = ((ib : ℝ) : EReal) :=
  IdealRules.named_const.ideal_named_scalar _ _ _ _ rfl
/-- The kernel's named mask is −∞. -/
theorem named_mask : Named.named (F := Ideal) Cert.KernelIdeal.κ "mask" (φ := .f32) 0xF149F2CA#32 = (⊥ : EReal) :=
  IdealRules.named_const.ideal_named_scalar _ _ _ _ rfl

/-- The word of minus infinity. -/
theorem bits_bot : Ideal.ofBits .f32 0xFF800000#32 = ⊥ := by simp [Ideal.ofBits, Ideal.ieee]
/-- The word of plus infinity. -/
theorem bits_top : Ideal.ofBits .f32 0x7F800000#32 = ⊤ := by simp [Ideal.ofBits, Ideal.ieee]
/-- The word of the least norm. -/
theorem bits_tiny : Ideal.ofBits .f32 0x2B8CBCCC#32 = ((tiny : ℝ) : EReal) := by
  simp [Ideal.ofBits, Ideal.ieee, -EReal.coe_mul]; unfold tiny; norm_num
/-- The word added to the greatest label. -/
theorem bits_eps : Ideal.ofBits .f32 0x1E3CE508#32 = ((eps : ℝ) : EReal) := by
  simp [Ideal.ofBits, Ideal.ieee, -EReal.coe_mul]; unfold eps; norm_num
/-- The word of 512. -/
theorem bits_512 : Ideal.ofBits .f32 0x44000000#32 = ((512 : ℝ) : EReal) := by
  simp [Ideal.ofBits, Ideal.ieee, -EReal.coe_mul]; norm_num
/-- The word of 64. -/
theorem bits_64 : Ideal.ofBits .f32 0x42800000#32 = ((64 : ℝ) : EReal) := by
  simp [Ideal.ofBits, Ideal.ieee, -EReal.coe_mul]; norm_num
/-- The word of 8. -/
theorem bits_8 : Ideal.ofBits .f32 0x41000000#32 = ((8 : ℝ) : EReal) := by
  simp [Ideal.ofBits, Ideal.ieee, -EReal.coe_mul]; norm_num
/-- The word of the temperature is the inverse of the inverse temperature. -/
theorem bits_temp : Ideal.ofBits .f32 0x3D4CCCCD#32 = ((ib⁻¹ : ℝ) : EReal) := by
  simp [Ideal.ofBits, Ideal.ieee, -EReal.coe_mul]; unfold ib; norm_num

end Cert.Proof.Consts

end
-- ==== Proof.State.lean ====
module

public import proofs.«01_k».proof.Proof.Consts
public import Idealize.ShloMosaic.Lib.Pipeline.ValueKit
public import Idealize.ShloMosaic.Lib.WordCmp

@[expose] public section

set_option maxRecDepth 16384

noncomputable section

/-! What the accumulators hold, in closed form over the extended reals: sums, and a greatest element, over a range of
columns. Each of the body's three updates takes one range to a longer one. -/

namespace Cert.Proof.State

open Cert.KernelIdeal Cert.KernelIdeal.Gen
open Idealize.ShloMosaic Idealize.ShloMosaic.TcCoe
open Cert.Proof.Body Cert.Proof.Consts

/-! ## Sums over a block's columns as sums over a range -/

section Range

variable {lo a b c₀ : ℕ} (f : ℕ → EReal) (g : Fin 4096 → EReal)

/-- A sum over a block of 4096 whose entries vanish outside a range is the sum over the range. -/
theorem sum_block (hc : c₀ ≤ a) (hb : b ≤ c₀ + 4096) (hg : ∀ x, g x = if a ≤ c₀ + x.val ∧ c₀ + x.val < b then f (c₀ + x.val) else 0) :
    ∑ x, g x = ∑ j ∈ Finset.Ico a b, f j := by
  rw [Finset.sum_congr rfl fun x _ => hg x, Fin.sum_univ_eq_sum_range (fun x => if a ≤ c₀ + x ∧ c₀ + x < b then f (c₀ + x) else 0),
    ← Finset.sum_filter]
  refine Finset.sum_nbij (c₀ + ·) ?_ (fun x _ y _ h => Nat.add_left_cancel h) ?_ fun _ _ => rfl
  · intro x hx
    simp only [Finset.mem_filter, Finset.mem_Ico] at hx ⊢
    exact hx.2
  · intro j hj
    simp only [Finset.coe_Ico, Set.mem_Ico] at hj
    refine ⟨j - c₀, ?_, by simp only; omega⟩
    simp only [Finset.coe_filter, Finset.mem_range, Set.mem_setOf_eq]
    refine ⟨by omega, by omega, by omega⟩

/-- So adding it to the sum over the range before gives the sum over both. -/
theorem add_block (hlo : lo ≤ a) (hab : a ≤ b) (hc : c₀ ≤ a) (hb : b ≤ c₀ + 4096)
    (hg : ∀ x, g x = if a ≤ c₀ + x.val ∧ c₀ + x.val < b then f (c₀ + x.val) else 0) :
    ∑ j ∈ Finset.Ico lo a, f j + ∑ x, g x = ∑ j ∈ Finset.Ico lo b, f j := by
  rw [sum_block f g hc hb hg, Finset.sum_Ico_consecutive f hlo hab]

/-- The greatest element likewise: entries outside the range are −∞. -/
theorem max_block (hlo : lo ≤ a) (hab : a ≤ b) (hc : c₀ ≤ a) (hb : b ≤ c₀ + 4096)
    (hg : ∀ x, g x = if a ≤ c₀ + x.val ∧ c₀ + x.val < b then f (c₀ + x.val) else ⊥) :
    max ((Finset.Ico lo a).sup f) (Finset.fold max ⊥ g Finset.univ) = (Finset.Ico lo b).sup f := by
  have h : Finset.fold max ⊥ g Finset.univ = Finset.univ.sup g := rfl
  rw [h]
  apply le_antisymm
  · refine max_le (Finset.sup_mono (Finset.Ico_subset_Ico_right hab)) (Finset.sup_le fun x _ => ?_)
    rw [hg x]
    split
    · rename_i h
      exact Finset.le_sup (f := f) (Finset.mem_Ico.mpr ⟨by omega, h.2⟩)
    · exact bot_le
  · refine Finset.sup_le fun j hj => ?_
    rw [Finset.mem_Ico] at hj
    by_cases hja : j < a
    · exact le_max_of_le_left (Finset.le_sup (f := f) (Finset.mem_Ico.mpr ⟨hj.1, hja⟩))
    · refine le_max_of_le_right ?_
      have := hg ⟨j - c₀, by omega⟩
      simp only [show c₀ + (j - c₀) = j by omega] at this
      rw [if_pos ⟨by omega, hj.2⟩] at this
      rw [← this]
      exact Finset.le_sup (Finset.mem_univ _)

end Range

/-! ## The accumulators over a range -/

variable (X : Vec Ideal S64x128 .f32) (E : ℕ → Fin 128 → EReal) (Y : Fin 64 → ℕ → EReal)

/-- The scaled logit of row `r` at column `j`. -/
def logit (r : Fin 64) (j : ℕ) : EReal := ∑ d, k0_pay33 (F := Ideal) X (ix2 r d) * E j d
/-- Its exponential below the bound the kernel shifts by. -/
def expTerm (r : Fin 64) (j : ℕ) : EReal := Ideal.exp (logit X E r j - ((ib : ℝ) : EReal))

/-- The accumulators over the columns from `lo` up to `hi`. -/
def over (lo hi : ℕ) : Acc Ideal where
  s i := ∑ j ∈ Finset.Ico lo hi, expTerm X E (i 0) j
  d i := ∑ j ∈ Finset.Ico lo hi, Y (i 0) j * E j (i 1)
  l i := ∑ j ∈ Finset.Ico lo hi, Y (i 0) j
  u i := (Finset.Ico lo hi).sup (Y (i 0))

/-- The reset accumulators are those over no columns. -/
theorem reset_eq (a : ℕ) : (Acc.reset : Acc Ideal) = over X E Y a a := by
  refine Acc.ext ?_ ?_ ?_ ?_ <;> funext i <;> simp only [Acc.reset, over, Finset.Ico_self, Finset.sum_empty, Finset.sup_empty]
  · pointwise [k0_pay18]
  · pointwise [k0_pay19]
  · pointwise [k0_pay20]
  · pointwise [k0_pay21]
    exact named_mask

variable (em : Vec Ideal S4096x128 .f32) (lab : Vec Ideal S64x4096 .f32)
variable {lo c₀ H : ℕ}

/-- A block within one segment extends the range by the block. -/
theorem whole_eq (hem : ∀ (x : Fin 4096) d, em (ix2 x d) = E (c₀ + x.val) d) (hlab : ∀ r (x : Fin 4096), lab (ix2 r x) = Y r (c₀ + x.val))
    (hlo : lo ≤ c₀) : Acc.whole X em lab (over X E Y lo c₀) = over X E Y lo (c₀ + 4096) := by
  have hin : ∀ x : Fin 4096, c₀ ≤ c₀ + x.val ∧ c₀ + x.val < c₀ + 4096 := fun x => by omega
  refine Acc.ext ?_ ?_ ?_ ?_ <;> funext i <;> simp only [Acc.whole, over] <;> idx_vars i
  · pointwise [k0_pay2, k0_pay1]
    refine add_block _ _ hlo (by omega) le_rfl le_rfl fun x => ?_
    rw [if_pos (hin x), named_ib]
    simp only [hem, expTerm, logit]
  · pointwise [k0_pay3]
    refine add_block (fun j => Y i0 j * E j i1) _ hlo (by omega) le_rfl le_rfl fun x => ?_
    rw [if_pos (hin x), hlab, hem]
  · pointwise [k0_pay4]
    refine add_block _ _ hlo (by omega) le_rfl le_rfl fun x => ?_
    rw [if_pos (hin x), hlab]
  · pointwise [k0_pay5]
    rw [show Ideal.ofBits .f32 4286578688#32 = ⊥ from bits_bot]
    refine max_block _ _ hlo (by omega) le_rfl le_rfl fun x => ?_
    rw [if_pos (hin x), hlab]

/-- The mask of a segment's last columns, as a choice on the column. -/
theorem left_sel {α : Type} (hc : c₀ ≤ 100000) (hn : H ≤ 100000) (x : Fin 4096) (p q : α) :
    Scalar.select (IntOp.andi
      (IntOp.cmpi CmpIPredicate.sge (IntOp.addi (BitVec.ofNat 32 ↑x) (BitVec.ofNat 32 c₀)) (BitVec.ofNat 32 c₀))
      (IntOp.cmpi CmpIPredicate.slt (IntOp.addi (BitVec.ofNat 32 ↑x) (BitVec.ofNat 32 c₀)) (BitVec.ofNat 32 H))) p q
      = if c₀ + x.val < H then p else q := by
  have hx := x.isLt
  rw [show IntOp.addi (BitVec.ofNat 32 x.val) (BitVec.ofNat 32 c₀) = BitVec.ofNat 32 (c₀ + x.val) by
      simp only [IntOp.addi, BitVec.ofNat_add, BitVec.add_comm],
    WordCmp.cmpi_sge_ofNat (by omega) (by omega), WordCmp.cmpi_slt_ofNat (by omega) (by omega), WordCmp.andi_ofBool]
  by_cases h : c₀ + x.val < H <;> simp [Scalar.select, h]

/-- The mask of a segment's first columns, as a choice on the column. -/
theorem right_sel {α : Type} (hc : c₀ ≤ 100000) (hn : H ≤ 100000) (x : Fin 4096) (p q : α) :
    Scalar.select (IntOp.andi
      (IntOp.cmpi CmpIPredicate.sge (IntOp.addi (BitVec.ofNat 32 ↑x) (BitVec.ofNat 32 c₀)) (BitVec.ofNat 32 H))
      (IntOp.cmpi CmpIPredicate.slt (IntOp.addi (BitVec.ofNat 32 ↑x) (BitVec.ofNat 32 c₀)) 100000#32)) p q
      = if H ≤ c₀ + x.val ∧ c₀ + x.val < 100000 then p else q := by
  have hx := x.isLt
  rw [show IntOp.addi (BitVec.ofNat 32 x.val) (BitVec.ofNat 32 c₀) = BitVec.ofNat 32 (c₀ + x.val) by
      simp only [IntOp.addi, BitVec.ofNat_add, BitVec.add_comm],
    WordCmp.cmpi_sge_ofNat (by omega) (by omega), show 100000#32 = BitVec.ofNat 32 100000 from rfl,
    WordCmp.cmpi_slt_ofNat (by omega) (by omega), WordCmp.andi_ofBool]
  by_cases h : H ≤ c₀ + x.val <;> by_cases h' : c₀ + x.val < 100000 <;> simp [Scalar.select, h, h']

/-- A masked logit's exponential is zero. -/
theorem exp_masked : Ideal.exp ((⊥ : EReal) - ((ib : ℝ) : EReal)) = 0 := by rw [EReal.bot_sub, Ideal.exp_bot]

/-- The end of a segment inside a block: the columns before it extend the range to the segment's end. -/
theorem left_eq (hem : ∀ (x : Fin 4096) d, c₀ + x.val < H → em (ix2 x d) = E (c₀ + x.val) d)
    (hlab : ∀ r (x : Fin 4096), c₀ + x.val < H → lab (ix2 r x) = Y r (c₀ + x.val))
    (hlo : lo ≤ c₀) (hc : c₀ ≤ H) (hH : H ≤ c₀ + 4096) (hn : H ≤ 100000) :
    Acc.left (BitVec.ofNat 32 c₀) (BitVec.ofNat 32 H) X em lab (over X E Y lo c₀) = over X E Y lo H := by
  have hcond : ∀ x : Fin 4096, (c₀ ≤ c₀ + x.val ∧ c₀ + x.val < H) = (c₀ + x.val < H) := fun x => by simp
  have hc' : c₀ ≤ 100000 := hc.trans hn
  refine Acc.ext ?_ ?_ ?_ ?_ <;> funext i <;> simp only [Acc.left, over] <;> idx_vars i
  · pointwise [k0_pay11, k0_pay1, k0_pay8]
    refine add_block _ _ hlo hc le_rfl hH fun x => ?_
    simp only [hcond, left_sel hc' hn, named_ib, named_mask]
    split
    · rename_i h
      simp only [hem x _ h, expTerm, logit]
    · exact exp_masked
  · pointwise [k0_pay12, k0_pay13, k0_pay9, k0_pay8]
    refine add_block (fun j => Y i0 j * E j i1) _ hlo hc le_rfl hH fun x => ?_
    simp only [hcond, left_sel hc' hn]
    split
    · rename_i h
      rw [hem x _ h, hlab _ x h]
    · simp only [zero_mul, mul_zero]
  · pointwise [k0_pay9, k0_pay14, k0_pay8]
    refine add_block _ _ hlo hc le_rfl hH fun x => ?_
    simp only [hcond, left_sel hc' hn]
    split
    · rename_i h
      rw [hlab _ x h]
    · rfl
  · pointwise [k0_pay15, k0_pay10, k0_pay8]
    rw [show Ideal.ofBits .f32 4286578688#32 = ⊥ from bits_bot]
    refine max_block _ _ hlo hc le_rfl hH fun x => ?_
    simp only [hcond, left_sel hc' hn, named_mask]
    split
    · rename_i h
      rw [hlab _ x h]
    · rfl

/-- The start of a segment inside a block: the columns from it on, up to the block's or the array's end. -/
theorem right_eq (hem : ∀ (x : Fin 4096) d, c₀ + x.val < 100000 → em (ix2 x d) = E (c₀ + x.val) d)
    (hlab : ∀ r (x : Fin 4096), c₀ + x.val < 100000 → lab (ix2 r x) = Y r (c₀ + x.val))
    (hc : c₀ ≤ H) (hH : H ≤ c₀ + 4096) (hn : H ≤ 100000) :
    Acc.right (BitVec.ofNat 32 c₀) (BitVec.ofNat 32 H) X em lab (over X E Y H H) = over X E Y H (min (c₀ + 4096) 100000) := by
  have hcond : ∀ x : Fin 4096, (H ≤ c₀ + x.val ∧ c₀ + x.val < min (c₀ + 4096) 100000) = (H ≤ c₀ + x.val ∧ c₀ + x.val < 100000) :=
    fun x => propext ⟨fun h => ⟨h.1, by omega⟩, fun h => ⟨h.1, by omega⟩⟩
  have hc' : c₀ ≤ 100000 := hc.trans hn
  have hle : H ≤ min (c₀ + 4096) 100000 := by omega
  have hmin : min (c₀ + 4096) 100000 ≤ c₀ + 4096 := min_le_left _ _
  refine Acc.ext ?_ ?_ ?_ ?_ <;> funext i <;> simp only [Acc.right, over] <;> idx_vars i
  · pointwise [k0_pay26, k0_pay1, k0_pay22]
    refine add_block _ _ le_rfl hle hc hmin fun x => ?_
    simp only [hcond, right_sel hc' hn, named_ib, named_mask]
    split
    · rename_i h
      simp only [hem x _ h.2, expTerm, logit]
    · exact exp_masked
  · pointwise [k0_pay27, k0_pay24, k0_pay22, k0_pay23]
    refine add_block (fun j => Y i0 j * E j i1) _ le_rfl hle hc hmin fun x => ?_
    simp only [hcond, right_sel hc' hn]
    split
    · rename_i h
      rw [hem x _ h.2, hlab _ x h.2]
    · simp only [zero_mul, mul_zero]
  · pointwise [k0_pay6, k0_pay28, k0_pay24, k0_pay22]
    refine add_block _ _ le_rfl hle hc hmin fun x => ?_
    simp only [hcond, right_sel hc' hn]
    split
    · rename_i h
      rw [hlab _ x h.2]
    · rfl
  · pointwise [k0_pay7, k0_pay25, k0_pay22]
    rw [show Ideal.ofBits .f32 4286578688#32 = ⊥ from bits_bot]
    refine max_block _ _ le_rfl hle hc hmin fun x => ?_
    simp only [hcond, right_sel hc' hn, named_mask]
    split
    · rename_i h
      rw [hlab _ x h.2]
    · rfl

/-! ## What a segment emits -/

/-- A row's loss of a segment, from the accumulated sums. -/
def rowOut (r : Fin 64) (lo hi : ℕ) : EReal :=
  Ideal.div ((∑ j ∈ Finset.Ico lo hi, Y r j) * (((ib : ℝ) : EReal) + Ideal.log (∑ j ∈ Finset.Ico lo hi, expTerm X E r j))
      - ∑ d, k0_pay33 (F := Ideal) X (ix2 r d) * ∑ j ∈ Finset.Ico lo hi, Y r j * E j d)
    ((Finset.Ico lo hi).sup (Y r) + ((eps : ℝ) : EReal))

/-- A segment's loss. -/
def segOut (lo hi : ℕ) : EReal := Ideal.div (∑ r, rowOut X E Y r lo hi) ((512 : ℝ) : EReal)

/-- The body writes the segment's loss. -/
theorem emit_eq (lo hi : ℕ) : Acc.emit X (over X E Y lo hi) = fun _ => segOut X E Y lo hi := by
  funext i
  simp only [segOut, rowOut]
  pointwise [Acc.emit, k0_pay17, k0_pay16]
  rw [show Ideal.ofBits .f32 1140850688#32 = _ from bits_512, show Ideal.ofBits .f32 507307272#32 = _ from bits_eps, named_ib]
  rfl

/-- The scaled, normalised rows, entry by entry. -/
theorem scaled_eq (r : Fin 64) (d : Fin 128) : k0_pay33 (F := Ideal) X (ix2 r d)
    = Ideal.div (X (ix2 r d) * ((ib : ℝ) : EReal)) (max (Ideal.sqrt (∑ k, X (ix2 r k) * X (ix2 r k))) ((tiny : ℝ) : EReal)) := by
  pointwise [k0_pay33]
  rw [show Ideal.ofBits .f32 730643660#32 = _ from bits_tiny, named_ib]

end Cert.Proof.State

end
-- ==== Proof.Points.lean ====
module

public import proofs.«01_k».proof.Proof.State

@[expose] public section

set_option maxRecDepth 16384

noncomputable section

/-! The grid's 25 points: the words the body computes from the point, the points at which a segment ends, and the blocks
each point reads. -/

namespace Cert.Proof.Points

open Cert.KernelIdeal Cert.KernelIdeal.Gen
open Idealize.ShloMosaic Idealize.ShloMosaic.TcCoe
open Cert.Proof.Body Cert.Proof.Consts Cert.Proof.State

/-- The block's first column. -/
theorem colW_eq : ∀ t : Fin cfg0.N, colW (grid0.coords t) = BitVec.ofNat 32 (4096 * t.val) :=
  (by decide +kernel : ∀ t : Fin grid0.N, colW (grid0.coords t) = BitVec.ofNat 32 (4096 * t.val))
/-- The end of the segment the block's first column lies in. -/
theorem nextW_eq : ∀ t : Fin cfg0.N, nextW (grid0.coords t) = BitVec.ofNat 32 (12500 * (4096 * t.val / 12500 + 1)) :=
  (by decide +kernel : ∀ t : Fin grid0.N, nextW (grid0.coords t) = BitVec.ofNat 32 (12500 * (4096 * t.val / 12500 + 1)))
/-- The accumulators are reset at the first point. -/
theorem first_iff : ∀ t : Fin cfg0.N, firstW (grid0.coords t) = 1#1 ↔ t.val = 0 :=
  (by decide +kernel : ∀ t : Fin grid0.N, firstW (grid0.coords t) = 1#1 ↔ t.val = 0)
/-- A segment ends inside the block exactly at the points 3, 6, …, 24. -/
theorem edge_iff : ∀ t : Fin cfg0.N, k0_cond3 (grid0.coords t) = 1#1 ↔ t.val % 3 = 0 ∧ t.val ≠ 0 :=
  (by decide +kernel : ∀ t : Fin grid0.N, k0_cond3 (grid0.coords t) = 1#1 ↔ t.val % 3 = 0 ∧ t.val ≠ 0)
/-- The block lies within one segment exactly at the other points. -/
theorem inner_iff : ∀ t : Fin cfg0.N, innerW (grid0.coords t) = 1#1 ↔ ¬ (t.val % 3 = 0 ∧ t.val ≠ 0) :=
  (by decide +kernel : ∀ t : Fin grid0.N, innerW (grid0.coords t) = 1#1 ↔ ¬ (t.val % 3 = 0 ∧ t.val ≠ 0))
/-- A block of the result is written back exactly where a segment ends. -/
theorem flush_iff : ∀ t : Fin cfg0.N, (cfg0.win 3).flush t = true ↔ t.val % 3 = 0 ∧ t.val ≠ 0 :=
  (by decide +kernel : ∀ t : Fin grid0.N, win0_3.flush t = true ↔ t.val % 3 = 0 ∧ t.val ≠ 0)
/-- The result's window is idle exactly where no segment ends. -/
theorem idle_iff : ∀ t : Fin cfg0.N, idle0 3 (grid0.coords t) = decide (¬ (t.val % 3 = 0 ∧ t.val ≠ 0)) :=
  (by decide +kernel : ∀ t : Fin grid0.N, idle0 3 (grid0.coords t) = decide (¬ (t.val % 3 = 0 ∧ t.val ≠ 0)))
/-- A point where no segment ends: its block lies in the array and in its first column's segment. -/
theorem inner_nat : ∀ n < 25, ¬ (n % 3 = 0 ∧ n ≠ 0) →
    4096 * n + 4096 ≤ 100000 ∧ (4096 * n + 4096) / 12500 = 4096 * n / 12500 := by decide
/-- A point where a segment ends: the end lies in the block and in the array, and the block ends in the next segment. -/
theorem edge_nat : ∀ n < 25, n % 3 = 0 ∧ n ≠ 0 →
    12500 * (4096 * n / 12500 + 1) ≤ 4096 * n + 4096 ∧ 12500 * (4096 * n / 12500 + 1) ≤ 100000
      ∧ min (4096 * n + 4096) 100000 / 12500 = 4096 * n / 12500 + 1 := by decide
/-- The windows' block indices. -/
theorem idx : ∀ t : Fin cfg0.N, win0_0.index t = ![0, 0] ∧ win0_1.index t = ![t.val, 0] ∧ win0_2.index t = ![0, t.val]
    ∧ win0_3.index t = ![4096 * t.val / 12500, 0, 0] :=
  (by decide +kernel : ∀ t : Fin grid0.N, _)

/-- How much of a memory block lies inside the array. -/
theorem xsize1 : ∀ (t : Fin cfg0.N) a, win0_1.xsize (grid0.coords t) a = (![min 4096 (100000 - 4096 * t.val), 128] : Fin 2 → ℕ) a :=
  (by decide +kernel : ∀ (t : Fin grid0.N) (a : Fin 2), win0_1.xsize (grid0.coords t) a = (![min 4096 (100000 - 4096 * t.val), 128] : Fin 2 → ℕ) a)
/-- How much of a label block lies inside the array. -/
theorem xsize2 : ∀ (t : Fin cfg0.N) a, win0_2.xsize (grid0.coords t) a = (![64, min 4096 (100000 - 4096 * t.val)] : Fin 2 → ℕ) a :=
  (by decide +kernel : ∀ (t : Fin grid0.N) (a : Fin 2), win0_2.xsize (grid0.coords t) a = (![64, min 4096 (100000 - 4096 * t.val)] : Fin 2 → ℕ) a)

variable (m : (ℓ : Loc nD τ sig) → Buf (Elt Ideal) ℓ) (c : Dev nD)

/-- The input rows. -/
def X : Vec Ideal S64x128 .f32 := m ((c : Thread nD τ).loc main_arg0)
/-- Column `j` of the memory, zero past the last. -/
def E (j : ℕ) (d : Fin 128) : EReal :=
  if h : j < 100000 then (m ((c : Thread nD τ).loc main_arg5) : Vec Ideal S100000x128 .f32) (ix2 ⟨j, h⟩ d) else 0
/-- The labels of row `r` at column `j`, zero past the last. -/
def Y (r : Fin 64) (j : ℕ) : EReal :=
  if h : j < 100000 then (m ((c : Thread nD τ).loc main_arg4) : Vec Ideal S64x100000 .f32) (ix2 r ⟨j, h⟩) else 0

/-- The first window's block is the whole array. -/
theorem iblk0 (t : Fin cfg0.N) : iblk m c 0 t = X m c := by
  unfold X
  blk_ext! [iblk, V, idx t]

/-- A memory block, filled out past the array's end by anything, holds the memory's columns. -/
theorem em_at (t : Fin cfg0.N) (d) (x : Fin 4096) (k : Fin 128) (h : 4096 * t.val + x.val < 100000) :
    win0_1.fill (grid0.coords t) d (iblk m c 1 t) (ix2 x k) = E m c (4096 * t.val + x.val) k := by
  unfold E
  rw [dif_pos h]
  unfold Pipeline.Window.fill
  rw [dif_pos]
  · blk_ext [iblk, V, idx t]
  · refine (win0_1.moved_iff _ _).mpr fun a => ?_
    rw [xsize1 t a]
    fin_cases a
    · show x.val < min 4096 (100000 - 4096 * t.val); have := x.isLt; omega
    · exact k.isLt

/-- A label block, filled out past the array's end by anything, holds the labels. -/
theorem lab_at (t : Fin cfg0.N) (d) (r : Fin 64) (x : Fin 4096) (h : 4096 * t.val + x.val < 100000) :
    win0_2.fill (grid0.coords t) d (iblk m c 2 t) (ix2 r x) = Y m c r (4096 * t.val + x.val) := by
  unfold Y
  rw [dif_pos h]
  unfold Pipeline.Window.fill
  rw [dif_pos]
  · blk_ext [iblk, V, idx t]
  · refine (win0_2.moved_iff _ _).mpr fun a => ?_
    rw [xsize2 t a]
    fin_cases a
    · exact r.isLt
    · show x.val < min 4096 (100000 - 4096 * t.val); have := x.isLt; omega

end Cert.Proof.Points

end
-- ==== Proof.Run.lean ====
module

public import proofs.«01_k».proof.Proof.Points
public import Idealize.ShloMosaic.Adequacy

@[expose] public section

set_option maxRecDepth 16384

noncomputable section

/-! The run of the idealized kernel: at every grid point the accumulators hold the sums over the columns of the current
segment read so far, and where a segment ends its loss is written back. -/

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose ΦA)
open Cert.Proof.Body Cert.Proof.Consts Cert.Proof.State Cert.Proof.Points

local notation "𝕄" => MT nD τ sig Unit (Elt Ideal) ℕ (UR sig nD τ) ℕ

variable (m : (ℓ : Loc nD τ sig) → Buf (Elt Ideal) ℓ) (ρ : Dev nD → PrngReg)

/-- How many columns have been read before point `n`. -/
def done (n : ℕ) : ℕ := min (4096 * n) 100000

/-- The accumulators before point `n`: over the current segment's columns read so far. -/
def st (c : Dev nD) (n : ℕ) : Acc Ideal := over (X m c) (E m c) (Y m c) (12500 * (done n / 12500)) (done n)

/-- Segment `k`'s loss. -/
def loss (c : Dev nD) (k : ℕ) : EReal := segOut (X m c) (E m c) (Y m c) (12500 * k) (12500 * (k + 1))

/-- The four scratch buffers with the accumulators before point `n` in them; before the first point, anything. -/
def held (c : Dev nD) (n : ℕ) : sProp 𝕄 :=
  iprop(∃ a : Acc Ideal, ⌜n ≠ 0 → a = st m c n⌝
    ∗ scr c (Memref.whole cc0_scratch0) (Memref.whole cc0_scratch1) (Memref.whole cc0_scratch2) (Memref.whole cc0_scratch3) a)

/-- The proof data: the inputs' blocks stay in place, the result's block is the finished segment's loss. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0 : EReal)) (iblk m c 1 t)
    | ⟨2, _⟩ => win0_2.fill (grid0.coords t) (fun _ => (0 : EReal)) (iblk m c 2 t)
    | ⟨3, _⟩ => fun _ => loss m c (4096 * t.val / 12500)
  Φ t := iprop(held m c t.val ∗ ∃ r, prngReg c r)
  q _ := fullShare
  owed _ := 0

/-- The arrays the windows start from are the contents the launch finds. -/
theorem A_eq (c : Dev nD) (w : Fin cfg0.W) : (dats m 0 c).A w = V m c (Pipeline.arrRef spec0 w) := by dsimp only [dats]

/-- What the body finds in the first window: the rows. -/
theorem before0 (c : Dev nD) (t : Fin cfg0.N) (d) : (dats m 0 c).before 0 t d = X m c :=
  (before0_0_of m (dats m 0 c) (A_eq m c 0) (fun _ => rfl) t d).trans (iblk0 m c t)
/-- In the second: the memory's block, filled out by anything. -/
theorem before1 (c : Dev nD) (t : Fin cfg0.N) (d) : (dats m 0 c).before 1 t d = win0_1.fill (grid0.coords t) d (iblk m c 1 t) := by
  unfold Dat.before; rw [if_pos (fetch0_1 t)]; rfl
/-- In the third: the labels' block, filled out by anything. -/
theorem before2 (c : Dev nD) (t : Fin cfg0.N) (d) : (dats m 0 c).before 2 t d = win0_2.fill (grid0.coords t) d (iblk m c 2 t) := by
  unfold Dat.before; rw [if_pos (fetch0_2 t)]; rfl

/-- The second window's buffer, unchanged, is what is asked of it: the block, filled out by anything. -/
theorem keep1 (c : Dev nD) (t : Fin cfg0.N) (d) :
    (owns (c : Thread nD τ) (stage0_1 (cfg0.slots t 1)) fullShare (win0_1.fill (grid0.coords t) d (iblk m c 1 t)) : sProp 𝕄)
    ⊢ owns (c : Thread nD τ) (stage0_1 (cfg0.slots t 1)) fullShare (win0_1.fill (grid0.coords t) d (win0_1.cut (grid0.coords t)
        (win0_1.fill (grid0.coords t) (fun _ => (0 : EReal)) (iblk m c 1 t)))) := by rw [win0_1.cut_fill]
/-- And the third's. -/
theorem keep2 (c : Dev nD) (t : Fin cfg0.N) (d) :
    (owns (c : Thread nD τ) (stage0_2 (cfg0.slots t 2)) fullShare (win0_2.fill (grid0.coords t) d (iblk m c 2 t)) : sProp 𝕄)
    ⊢ owns (c : Thread nD τ) (stage0_2 (cfg0.slots t 2)) fullShare (win0_2.fill (grid0.coords t) d (win0_2.cut (grid0.coords t)
        (win0_2.fill (grid0.coords t) (fun _ => (0 : EReal)) (iblk m c 2 t)))) := by rw [win0_2.cut_fill]
/-- After any point the first window holds the features. -/
theorem after0 (c : Dev nD) (t : Fin cfg0.N) : (dats m 0 c).after 0 t = X m c := iblk0 m c t
/-- After any point the output window holds the loss of the point's camera. -/
theorem after3 (c : Dev nD) (t : Fin cfg0.N) : (dats m 0 c).after 3 t = fun _ => loss m c (4096 * t.val / 12500) := rfl

/-- A point inside one segment takes the accumulators to the next point's. -/
theorem step_inner (c : Dev nD) (t : Fin cfg0.N) (h : ¬ (t.val % 3 = 0 ∧ t.val ≠ 0)) (d1 d2) :
    Acc.whole (X m c) (win0_1.fill (grid0.coords t) d1 (iblk m c 1 t)) (win0_2.fill (grid0.coords t) d2 (iblk m c 2 t)) (st m c t.val)
      = st m c (t.val + 1) := by
  have ht : t.val < 25 := t.isLt
  obtain ⟨h1, h2⟩ := inner_nat _ ht h
  have hd : done t.val = 4096 * t.val := by unfold done; omega
  have hd' : done (t.val + 1) = 4096 * t.val + 4096 := by unfold done; omega
  unfold st
  rw [hd, hd', h2]
  exact whole_eq _ _ _ _ _ (fun x k => em_at m c t d1 x k (by have := x.isLt; omega))
    (fun r x => lab_at m c t d2 r x (by have := x.isLt; omega)) (by omega)

/-- At the first point the accumulators are reset, which is what they are over no columns. -/
theorem st_zero (c : Dev nD) : st m c 0 = Acc.reset := by
  unfold st; rw [show done 0 = 0 from rfl]; exact (reset_eq _ _ _ 0).symm

/-- Where a segment ends, its last columns complete the accumulators, and the loss is emitted. -/
theorem step_emit (c : Dev nD) (t : Fin cfg0.N) (h : t.val % 3 = 0 ∧ t.val ≠ 0) (d1 d2) :
    Acc.emit (X m c) (Acc.left (colW (grid0.coords t)) (nextW (grid0.coords t)) (X m c) (win0_1.fill (grid0.coords t) d1 (iblk m c 1 t))
      (win0_2.fill (grid0.coords t) d2 (iblk m c 2 t)) (st m c t.val)) = fun _ => loss m c (4096 * t.val / 12500) := by
  have ht : t.val < 25 := t.isLt
  obtain ⟨h1, h2, h3⟩ := edge_nat _ ht h
  have hd : done t.val = 4096 * t.val := by unfold done; omega
  unfold st
  rw [hd, colW_eq, nextW_eq, left_eq _ (E m c) (Y m c) _ _ (fun x k hx => em_at m c t d1 x k (by omega)) (fun r x hx => lab_at m c t d2 r x (by omega))
    (by omega) (by omega) (by omega) (by omega), emit_eq]
  rfl

/-- And the next segment's first columns start the accumulators again. -/
theorem step_edge (c : Dev nD) (t : Fin cfg0.N) (h : t.val % 3 = 0 ∧ t.val ≠ 0) (d1 d2) :
    Acc.right (colW (grid0.coords t)) (nextW (grid0.coords t)) (X m c) (win0_1.fill (grid0.coords t) d1 (iblk m c 1 t))
      (win0_2.fill (grid0.coords t) d2 (iblk m c 2 t)) Acc.reset = st m c (t.val + 1) := by
  have ht : t.val < 25 := t.isLt
  obtain ⟨h1, h2, h3⟩ := edge_nat _ ht h
  have hd : done (t.val + 1) = min (4096 * t.val + 4096) 100000 := by unfold done; omega
  unfold st
  rw [hd, h3, colW_eq, nextW_eq, reset_eq (X m c) (E m c) (Y m c) (12500 * (4096 * t.val / 12500 + 1))]
  exact right_eq _ _ _ _ _ (fun x k hx => em_at m c t d1 x k hx) (fun r x hx => lab_at m c t d2 r x hx) (by omega) (by omega) (by omega)

/-- The body obligation, from the three runs of the body. -/
theorem body_obligation (c : Dev nD) :
    BodyObligationLoose (dats m 0 c) (defs₀ (F := Ideal)) Variants.none () Set.univ := fun t => by
  rw [bigSep_W0, bigSep_W0]
  sl_whnfR [defs₀, Defs.onTc]
  rw [show (dats m 0 c).Φ t.succ = iprop(held m c (t.val + 1) ∗ ∃ r, prngReg c r) from rfl,
    show (dats m 0 c).owesAt () t.succ = (dats m 0 c).owesAt () t.castSucc from rfl,
    show (dats m 0 c).Φ t.castSucc = iprop(held m c t.val ∗ ∃ r, prngReg c r) from rfl]
  simp only [before0, before1, before2, after0, after3]
  unfold held
  iintro ⟨⟨⟨%a, %ha, Hs⟩, Hg⟩, Ho, ⟨%d0, H0⟩, ⟨%d1, H1⟩, ⟨%d2, H2⟩, ⟨%d3, H3⟩⟩
  by_cases he : t.val % 3 = 0 ∧ t.val ≠ 0
  · have hi : idle0 3 (grid0.coords t) = false := by rw [idle_iff, decide_eq_false (not_not_intro he)]
    simp only [hi]
    obtain rfl := ha he.2
    iapply (runEdge c (grid0.coords t) (fun h => he.2 ((first_iff t).mp h)) (fun h => (inner_iff t).mp h he) ((edge_iff t).mpr he)
      _ _ _ _ _ _ _ _ _ _ _ _ _ _ _ _ Set.univ _ (X m c) (win0_1.fill (grid0.coords t) d1 (iblk m c 1 t))
      (win0_2.fill (grid0.coords t) d2 (iblk m c 2 t)) ((dats m 0 c).before 3 t d3) (st m c t.val))
    isplitl [H0]; · iexact H0
    isplitl [H1]; · iexact H1
    isplitl [H2]; · iexact H2
    isplitl [H3]; · iexact H3
    isplitl [Hs]; · iexact Hs
    rw [step_emit m c t he, step_edge m c t he]
    iintro ⟨H0, H1, H2, H3, Hs⟩
    isplitl [Hs Hg]
    · isplitl [Hs]
      · iexists _; isplitr; swap; · iexact Hs
        ipureintro; exact fun _ => rfl
      iexact Hg
    isplitl [Ho]; · iexact Ho
    isplitl [H0]; · iexact H0
    isplitl [H1]; · iexists d1; iapply (keep1 m c t d1); iexact H1
    isplitl [H2]; · iexists d2; iapply (keep2 m c t d2); iexact H2
    iexact H3
  · have hi : idle0 3 (grid0.coords t) = true := by rw [idle_iff, decide_eq_true he]
    have hf : (cfg0.win 3).flush t = false := Bool.eq_false_iff.mpr fun h => he ((flush_iff t).mp h)
    simp only [hi, hf]
    by_cases h0 : t.val = 0
    · iapply (runFirst c (grid0.coords t) ((first_iff t).mpr h0) ((inner_iff t).mpr he) (fun h => he ((edge_iff t).mp h))
        _ _ _ _ _ _ _ _ _ _ _ _ _ _ _ _ Set.univ _ (X m c) (win0_1.fill (grid0.coords t) d1 (iblk m c 1 t))
        (win0_2.fill (grid0.coords t) d2 (iblk m c 2 t)) ((dats m 0 c).before 3 t d3) a)
      isplitl [H0]; · iexact H0
      isplitl [H1]; · iexact H1
      isplitl [H2]; · iexact H2
      isplitl [H3]; · iexact H3
      isplitl [Hs]; · iexact Hs
      rw [← st_zero m c, show st m c 0 = st m c t.val by rw [h0], step_inner m c t he]
      iintro ⟨H0, H1, H2, H3, Hs⟩
      isplitl [Hs Hg]
      · isplitl [Hs]
        · iexists _; isplitr; swap; · iexact Hs
          ipureintro; exact fun _ => rfl
        iexact Hg
      isplitl [Ho]; · iexact Ho
      isplitl [H0]; · iexact H0
      isplitl [H1]; · iexists d1; iapply (keep1 m c t d1); iexact H1
      isplitl [H2]; · iexists d2; iapply (keep2 m c t d2); iexact H2
      iexists d3; iexact H3
    · obtain rfl := ha h0
      iapply (runInner c (grid0.coords t) (fun h => h0 ((first_iff t).mp h)) ((inner_iff t).mpr he) (fun h => he ((edge_iff t).mp h))
        _ _ _ _ _ _ _ _ _ _ _ _ _ _ _ _ Set.univ _ (X m c) (win0_1.fill (grid0.coords t) d1 (iblk m c 1 t))
        (win0_2.fill (grid0.coords t) d2 (iblk m c 2 t)) ((dats m 0 c).before 3 t d3) (st m c t.val))
      isplitl [H0]; · iexact H0
      isplitl [H1]; · iexact H1
      isplitl [H2]; · iexact H2
      isplitl [H3]; · iexact H3
      isplitl [Hs]; · iexact Hs
      rw [step_inner m c t he]
      iintro ⟨H0, H1, H2, H3, Hs⟩
      isplitl [Hs Hg]
      · isplitl [Hs]
        · iexists _; isplitr; swap; · iexact Hs
          ipureintro; exact fun _ => rfl
        iexact Hg
      isplitl [Ho]; · iexact Ho
      isplitl [H0]; · iexact H0
      isplitl [H1]; · iexists d1; iapply (keep1 m c t d1); iexact H1
      isplitl [H2]; · iexists d2; iapply (keep2 m c t d2); iexact H2
      iexists d3; iexact H3

/-- What the region starts from: the scratch at anything. -/
theorem Φ_in (c : Dev nD) : ΦA spec0 c ⊢ ((dats m 0 c).Φ 0 : sProp 𝕄) := by
  show _ ⊢ iprop(held m c 0 ∗ ∃ r, prngReg c r)
  unfold ΦA held scr
  rw [scopedRest0_eq]
  simp only [← owns_whole]
  iintro ⟨⟨⟨%s, H5⟩, ⟨%d, H6⟩, ⟨%l, H7⟩, ⟨%u, H8⟩⟩, Hg⟩
  isplitr [Hg]
  · iexists (⟨s, d, l, u⟩ : Acc Ideal)
    isplitr; · ipureintro; exact fun h => absurd rfl h
    isplitl [H5]; · iexact H5
    isplitl [H6]; · iexact H6
    isplitl [H7]; · iexact H7
    iexact H8
  iexact Hg

/-- What it ends in: the scratch at something. -/
theorem Φ_out (c : Dev nD) : ((dats m 0 c).Φ (Fin.last cfg0.N) : sProp 𝕄) ⊢ ΦA spec0 c := by
  show iprop(held m c cfg0.N ∗ ∃ r, prngReg c r) ⊢ _
  unfold ΦA held scr
  rw [scopedRest0_eq]
  simp only [← owns_whole]
  iintro ⟨⟨%a, -, H5, H6, H7, H8⟩, Hg⟩
  isplitr [Hg]
  · isplitl [H5]; · iexists _; iexact H5
    isplitl [H6]; · iexists _; iexact H6
    isplitl [H7]; · iexists _; iexact H7
    iexists _; iexact H8
  iexact Hg

set_option backward.isDefEq.respectTransparency.types false in
/-- The run: the arrays as written back, everything else as the host operations after the region leave it, and every
    semaphore at zero. -/
theorem run : θ_run defs (onTc (τ := τ) (main (F := Ideal))) (s₀ m ρ) (fun r =>
    Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := A_eq m) (hin := Φ_in m) (hout := Φ_out m) (Q' := _) (hQ' := fun _ h => h)

end Cert.Proof.Run

end
-- ==== Proof.Result.lean ====
module

public import proofs.«01_k».proof.Proof.Run
public import Idealize.ShloMosaic.Lib.StableHlo.ReadAt
public import Idealize.ShloMosaic.Lib.IdealHost

@[expose] public section

set_option maxRecDepth 16384

noncomputable section

/-! The idealized kernel's result: the sum of the eight segments' losses. -/

namespace Cert.Proof.Result

open Cert.KernelIdeal Cert.KernelIdeal.Gen
open Idealize.ShloMosaic Idealize.ShloMosaic.TcCoe
open Idealize.SL.Sem
open Idealize.ShloMosaic.Pipeline (Dat)
open Cert.Proof.Body Cert.Proof.Consts Cert.Proof.State Cert.Proof.Points Cert.Proof.Run

variable (m : (ℓ : Loc nD τ sig) → Buf (Elt Ideal) ℓ) (ρ : Dev nD → PrngReg)

/-- The array the region writes: entry `k` is segment `k`'s loss. -/
theorem out_eq (c : Dev nD) : (dats m 0 c).arrAt 3 cfg0.N = fun i => loss m c (i (0 : Fin 3)).val := by
  refine (dats m 0 c).arrAt_eq_of_covers 3 _ (by decide +kernel) fun t hf y => ?_
  blk_simp
  rw [after3]
  blk_simp [idx t]

/-- A column of eight numbers sums to their sum. -/
theorem sum_col (f : ℕ → EReal) (A : S8x1x1.Idx → EReal) (h : A = fun i => f (i (0 : Fin 3)).val) :
    ∑ k0 : Fin 8, ∑ k1 : Fin 1, ∑ k2 : Fin 1, A (ix3 k0 k1 k2) = ∑ k : Fin 8, f k.val := by
  subst h
  refine Finset.sum_congr rfl fun k _ => ?_
  rw [Fin.sum_univ_one, Fin.sum_univ_one]; rfl

/-- The result: the eight losses added up. -/
theorem tail_eq (c : Dev nD) :
    Pipeline.afterTail₀ cfgs (dats m) 0 (V0 m) [hostOps1] c main_v2 = fun _ => ∑ k : Fin 8, loss m c k.val := by
  unfold Pipeline.afterTail₀
  have h : Pipeline.withArrays spec0 c (V0 m c) (fun w => (dats m 0 c).arrAt w cfg0.N) (Proc.devRef .tc main_v0)
      = fun i => loss m c (i (0 : Fin 3)).val :=
    (Pipeline.withArrays_arr spec0 launch0.win.arr_inj c (V0 m c) _ 3).trans (out_eq m c)
  funext i
  simp only [List.flatten_cons, List.flatten_nil, List.append_nil]
  after_reads_at
  exact sum_col (loss m c) _ h

/-- The idealized kernel runs to its end with the eight losses' sum in the result, its arguments unchanged and every
    semaphore at zero. -/
theorem run : θ_run defs (onTc (τ := τ) (main (F := Ideal))) ⟨m, fun _ => 0, ρ⟩ (fun r => (∀ c : Dev nD,
    r.2.mem ((c.tc : Thread nD τ).loc main_v2) = (fun _ => ∑ k : Fin 8, loss m c k.val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r ⟨h, hs⟩ => ⟨fun c =>
    ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 2).trans (((dats m 0 c).arrAt_in 2 rfl _).trans ((A_eq m c 2).trans (V_main_arg4 m c))),
      ((h c).1 1).trans (((dats m 0 c).arrAt_in 1 rfl _).trans ((A_eq m c 1).trans (V_main_arg5 m c)))⟩, hs⟩) (Run.run m ρ)

end Cert.Proof.Result

end
-- ==== Proof.RowMath.lean ====
module

public import proofs.«01_k».proof.Proof.Consts

@[expose] public section

noncomputable section

/-! One row of one camera: the kernel's single quotient is the reference's sum of label-weighted log-softmax terms. -/

namespace Cert.Proof.RowMath

open Idealize.ShloMosaic Cert.Proof.Consts

/-! ## Extended reals -/

/-- A sum of real numbers, read in the extended reals, is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The quotient of two real numbers, the divisor not zero, is the real quotient. -/
theorem div_real {b : ℝ} (hb : b ≠ 0) (a : ℝ) : Ideal.div (a : EReal) (b : EReal) = ((a / b : ℝ) : EReal) := by
  rw [Ideal.div_coe hb, ← EReal.coe_mul, mul_one_div]

/-- Anything over plus infinity is zero. -/
theorem div_top (a : EReal) : Ideal.div a ⊤ = 0 := by
  rw [Ideal.div, if_neg EReal.top_ne_zero, EReal.inv_top, mul_zero]

/-- Nothing positive over zero is minus infinity. -/
theorem div_zero {a : EReal} (ha : a ≤ 0) : Ideal.div a 0 = ⊥ := by
  rw [Ideal.div, if_pos rfl, if_neg (not_lt.mpr ha)]

/-- A sum, over at least one index, of minus infinities is minus infinity. -/
theorem sum_bot {ι : Type} [Fintype ι] [Nonempty ι] : ∑ _i : ι, (⊥ : EReal) = ⊥ := by
  classical
  obtain ⟨i⟩ := ‹Nonempty ι›
  rw [← Finset.add_sum_erase _ _ (Finset.mem_univ i), EReal.bot_add]

/-- The greatest of real numbers, over at least one index, is one of them. -/
theorem sup_real {ι : Type} [Fintype ι] [Nonempty ι] (f : ι → ℝ) :
    ∃ i, (Finset.univ.sup fun j => ((f j : ℝ) : EReal)) = f i ∧ ∀ j, f j ≤ f i := by
  obtain ⟨i, -, hi⟩ := Finset.exists_max_image Finset.univ f Finset.univ_nonempty
  exact ⟨i, le_antisymm (Finset.sup_le fun j hj => EReal.coe_le_coe_iff.mpr (hi j hj))
    (Finset.le_sup (f := fun j => ((f j : ℝ) : EReal)) (Finset.mem_univ i)), fun j => hi j (Finset.mem_univ j)⟩

/-! ## Unit features -/

section Unit

variable {κ : Type} [Fintype κ]

/-- The norm divided by: the root of the sum of squares, held up from zero. -/
def norm (x : κ → EReal) : EReal := max (Ideal.sqrt (∑ k, x k * x k)) ((tiny : ℝ) : EReal)

/-- A square is not negative. -/
theorem sq_nonneg (a : EReal) : 0 ≤ a * a := by
  rcases le_total 0 a with h | h
  · exact mul_nonneg h h
  · have := mul_nonneg (EReal.neg_nonneg.mpr h) (EReal.neg_nonneg.mpr h)
    rwa [neg_mul_neg] at this

/-- Whatever the features are, over their norm they are real, and the kernel's scaled features are those reals times
    the inverse temperature. -/
theorem unit_real (x : κ → EReal) :
    ∃ u : κ → ℝ, (∀ d, Ideal.div (x d) (norm x) = u d) ∧
      ∀ d, Ideal.div (x d * ((ib : ℝ) : EReal)) (norm x) = ((ib * u d : ℝ) : EReal) := by
  have hQ : 0 ≤ ∑ k, x k * x k := Finset.sum_nonneg fun k _ => sq_nonneg (x k)
  by_cases hT : ∑ k, x k * x k = ⊤
  · have hn : norm x = ⊤ := by rw [norm, hT, Ideal.sqrt_top, max_eq_left le_top]
    refine ⟨fun _ => 0, fun d => ?_, fun d => ?_⟩
    · rw [hn, div_top]; simp
    · rw [hn, div_top]; simp
  · lift ∑ k, x k * x k to ℝ using ⟨hT, fun h => by simp [h] at hQ⟩ with q hq
    have hq0 : 0 ≤ q := by exact_mod_cast hQ
    have hx : ∀ d, ∃ a : ℝ, x d = a := by
      intro d
      have hd : x d * x d ≤ (q : EReal) := by
        rw [hq]
        exact Finset.single_le_sum (f := fun k => x k * x k) (fun k _ => sq_nonneg (x k)) (Finset.mem_univ d)
      induction h : x d with
      | bot => rw [h] at hd; simp at hd
      | top => rw [h] at hd; simp at hd
      | coe a => exact ⟨a, rfl⟩
    choose a ha using hx
    have hn : norm x = ((max (Real.sqrt q) tiny : ℝ) : EReal) := by
      rw [norm, ← hq, Ideal.sqrt_coe, if_neg (not_lt.mpr hq0)]
      exact (EReal.coe_strictMono.monotone.map_max (a := Real.sqrt q) (b := tiny)).symm
    have hb : max (Real.sqrt q) tiny ≠ 0 := (lt_of_lt_of_le tiny_pos (le_max_right _ _)).ne'
    refine ⟨fun d => a d / max (Real.sqrt q) tiny, fun d => ?_, fun d => ?_⟩
    · rw [hn, ha, div_real hb]
    · rw [hn, ha, ← EReal.coe_mul, div_real hb, mul_comm (a d), mul_div_assoc]

end Unit

/-! ## Log-sum-exp -/

section Lse

variable {ι : Type} [Fintype ι] [Nonempty ι]

/-- The logarithm of a sum of exponentials. -/
def lse (l : ι → ℝ) : ℝ := Real.log (∑ j, Real.exp (l j))

/-- A sum of exponentials is positive. -/
theorem sum_exp_pos (l : ι → ℝ) : 0 < ∑ j, Real.exp (l j) :=
  Finset.sum_pos (fun j _ => Real.exp_pos _) Finset.univ_nonempty

/-- Taking the same number off every logit takes it off the log-sum-exp. -/
theorem lse_shift (l : ι → ℝ) (s : ℝ) : s + lse (fun j => l j - s) = lse l := by
  unfold lse
  simp only [Real.exp_sub]
  rw [← Finset.sum_div, Real.log_div (sum_exp_pos l).ne' (Real.exp_pos s).ne', Real.log_exp]
  ring

/-- With at least two logits, each is below the log-sum-exp. -/
theorem lt_lse [Nontrivial ι] (l : ι → ℝ) (j : ι) : l j < lse l := by
  classical
  obtain ⟨k, hk⟩ := exists_ne j
  rw [lse, Real.lt_log_iff_exp_lt (sum_exp_pos l)]
  exact Finset.single_lt_sum hk (Finset.mem_univ j) (Finset.mem_univ k) (Real.exp_pos _)
    fun i _ _ => (Real.exp_pos _).le

/-- The extended-real log of the sum of the exponentials of real numbers. -/
theorem log_sum_exp (l : ι → ℝ) : Ideal.log (∑ j, Ideal.exp ((l j : ℝ) : EReal)) = ((lse l : ℝ) : EReal) := by
  simp only [Ideal.exp_coe]
  rw [coe_sum, Ideal.log_coe, if_neg (not_le.mpr (sum_exp_pos l)), lse]

/-- The kernel's log-sum-exp: shifted by the inverse temperature. -/
theorem kernel_lse (l : ι → ℝ) :
    ((ib : ℝ) : EReal) + Ideal.log (∑ j, Ideal.exp (((l j : ℝ) : EReal) - ((ib : ℝ) : EReal))) = ((lse l : ℝ) : EReal) := by
  simp only [← EReal.coe_sub]
  rw [log_sum_exp, ← EReal.coe_add, lse_shift]

/-- The reference's log-softmax: shifted by the greatest logit. -/
theorem reference_logp (l : ι → ℝ) (j : ι) :
    ((l j : ℝ) : EReal) - (Finset.univ.sup fun k => ((l k : ℝ) : EReal))
        - Ideal.log (∑ k, Ideal.exp (((l k : ℝ) : EReal) - Finset.univ.sup fun k => ((l k : ℝ) : EReal)))
      = ((l j - lse l : ℝ) : EReal) := by
  obtain ⟨i, hi, -⟩ := sup_real l
  rw [hi]
  simp only [← EReal.coe_sub]
  rw [log_sum_exp, ← EReal.coe_sub, ← lse_shift l (l i)]
  congr 1; ring

end Lse

/-! ## The row -/

section Row

variable {ι κ : Type} [Fintype ι] [Nontrivial ι] [Fintype κ]

/-- The kernel's numerator, when every label is real: labels against how far each logit is below the log-sum-exp. -/
theorem numer_real (u : κ → ℝ) (e : ι → κ → ℝ) (t : ι → ℝ) (c : ℝ) :
    (∑ j, ((t j : ℝ) : EReal)) * (c : EReal) - ∑ d, ((ib * u d : ℝ) : EReal) * ∑ j, ((t j : ℝ) : EReal) * ((e j d : ℝ) : EReal)
      = ((∑ j, t j * (c - ib * ∑ d, u d * e j d) : ℝ) : EReal) := by
  simp only [← EReal.coe_mul, coe_sum, ← EReal.coe_sub]
  congr 1
  simp only [mul_sub, Finset.sum_sub_distrib, Finset.sum_mul, Finset.mul_sum]
  congr 1
  rw [Finset.sum_comm]
  exact Finset.sum_congr rfl fun j _ => Finset.sum_congr rfl fun d _ => by ring

/-- The row, once the features are real: labels above minus infinity. The greatest label plus the small constant may be
    plus infinity (both sides are then zero), zero (both are then minus infinity) or any other real number. -/
theorem row_real (u : κ → ℝ) (e : ι → κ → ℝ) (y : ι → EReal) (hy : ∀ j, ⊥ < y j) :
    Ideal.div ((∑ j, y j) * ((lse fun j => ib * ∑ d, u d * e j d : ℝ) : EReal)
          - ∑ d, ((ib * u d : ℝ) : EReal) * ∑ j, y j * ((e j d : ℝ) : EReal))
        (Finset.univ.sup y + ((eps : ℝ) : EReal))
      = ∑ j, -(Ideal.div (y j) (Finset.univ.sup y + ((eps : ℝ) : EReal))
          * (((ib * ∑ d, u d * e j d) - lse (fun j => ib * ∑ d, u d * e j d) : ℝ) : EReal)) := by
  by_cases hT : Finset.univ.sup y = ⊤
  · rw [hT, EReal.top_add_coe]
    simp [div_top]
  · have hy' : ∀ j, y j ≠ ⊤ := fun j h => hT (top_le_iff.mp (h ▸ Finset.le_sup (f := y) (Finset.mem_univ j)))
    lift y to ι → ℝ using fun j => ⟨hy' j, (hy j).ne'⟩ with t
    obtain ⟨i, hi, hmax⟩ := sup_real t
    rw [hi, numer_real, ← EReal.coe_add]
    set l : ι → ℝ := fun j => ib * ∑ d, u d * e j d with hl
    by_cases h0 : t i + eps = 0
    · have ht : ∀ j, t j < 0 := fun j => by have := hmax j; have := eps_pos; linarith
      have hlt : ∀ j, l j - lse l < 0 := fun j => sub_neg.mpr (lt_lse l j)
      rw [h0, EReal.coe_zero, div_zero (EReal.coe_nonpos.mpr (Finset.sum_nonpos fun j _ =>
        mul_nonpos_of_nonpos_of_nonneg (ht j).le (by have := hlt j; simp only [hl] at this ⊢; linarith)))]
      rw [← sum_bot (ι := ι)]
      refine Finset.sum_congr rfl fun j _ => ?_
      rw [div_zero (EReal.coe_nonpos.mpr (ht j).le), EReal.bot_mul_coe_of_neg (hlt j), EReal.neg_top]
    · simp only [div_real h0, ← EReal.coe_mul, ← EReal.coe_neg, coe_sum]
      congr 1
      rw [Finset.sum_div]
      refine Finset.sum_congr rfl fun j _ => ?_
      simp only [hl]
      field_simp
      ring

/-- The row: the kernel's quotient, from its scaled features, is the reference's sum, from its unit features. -/
theorem row_eq (x : κ → EReal) (e : ι → κ → ℝ) (y : ι → EReal) (hy : ∀ j, ⊥ < y j) (s v : κ → EReal)
    (hs : ∀ d, s d = Ideal.div (x d * ((ib : ℝ) : EReal)) (norm x)) (hv : ∀ d, v d = Ideal.div (x d) (norm x))
    (g : ι → EReal) (hg : ∀ j, g j = Ideal.div (∑ d, v d * ((e j d : ℝ) : EReal)) ((ib⁻¹ : ℝ) : EReal)) :
    Ideal.div ((∑ j, y j) * (((ib : ℝ) : EReal)
            + Ideal.log (∑ j, Ideal.exp ((∑ d, s d * ((e j d : ℝ) : EReal)) - ((ib : ℝ) : EReal))))
          - ∑ d, s d * ∑ j, y j * ((e j d : ℝ) : EReal))
        (Finset.univ.sup y + ((eps : ℝ) : EReal))
      = ∑ j, -(Ideal.div (y j) (Finset.univ.sup y + ((eps : ℝ) : EReal))
          * (g j - Finset.univ.sup g - Ideal.log (∑ k, Ideal.exp (g k - Finset.univ.sup g)))) := by
  obtain ⟨u, hu, hw⟩ := unit_real x
  have hlog : ∀ j, ∑ d, s d * ((e j d : ℝ) : EReal) = ((ib * ∑ d, u d * e j d : ℝ) : EReal) := by
    intro j
    simp only [hs, hw, ← EReal.coe_mul, coe_sum, Finset.mul_sum, mul_assoc]
  have hg' : g = fun j => ((ib * ∑ d, u d * e j d : ℝ) : EReal) := by
    funext j
    simp only [hg, hv, hu, ← EReal.coe_mul, coe_sum]
    rw [div_real (inv_ne_zero ib_pos.ne'), div_inv_eq_mul, mul_comm]
  have hk := kernel_lse fun j => ib * ∑ d, u d * e j d
  have hr := reference_logp fun j => ib * ∑ d, u d * e j d
  rw [hg']
  simp only [hlog, hk, hr]
  simp only [hs, hw]
  exact row_real u e y hy

end Row

/-- An eighth of a sixty-fourth is a five-hundred-and-twelfth. -/
theorem mean_eq (a : EReal) :
    Ideal.div (Ideal.div a ((64 : ℝ) : EReal)) ((8 : ℝ) : EReal) = Ideal.div a ((512 : ℝ) : EReal) := by
  rw [Ideal.div_coe (by norm_num), Ideal.div_coe (by norm_num), Ideal.div_coe (by norm_num), mul_assoc, ← EReal.coe_mul]
  norm_num

end Cert.Proof.RowMath
-- ==== Proof.RefValue.lean ====
module

public import proofs.«01_k».proof.Proof.Consts
public import proofs.«01_k».proof.Proof.Gen.ReferenceIdeal
public import Idealize.ShloMosaic.Lib.Pipeline.ValueKit
public import Idealize.ShloMosaic.Lib.Pointwise

@[expose] public section

set_option maxRecDepth 16384

noncomputable section

namespace Cert.Proof.RefValue

open Cert.ReferenceIdeal Cert.ReferenceIdeal.Gen Cert.Proof.Consts
open Idealize.ShloMosaic Idealize.ShloMosaic.TcCoe

/-- The reference's unit features: each row over its norm, the norm held up from zero. -/
def unitOf (x : FVec Ideal S64x128 .f32) : FVec Ideal S64x128 .f32 :=
  Host.divf x (broadcastInDim S64x128 ![0, 1] bcast_S64x1_S64x128_0_1
    (maximumf (Host.sqrt (broadcastInDim S64x1 ![0] bcast_S64_S64x1_0
        (Host.reduceAdd (mulf x x) (constant S_ .f32 0x00000000#32) reducesTo_S64x128_S64_d1 h_S_)))
      (broadcastInDim S64x1 ![] bcast_S_S64x1 (constant S_ .f32 0x2B8CBCCC#32))))

/-- The reference's logits of one camera: unit features against the camera's memory rows, divided
by the temperature. -/
def logitsOf (xn : FVec Ideal S64x128 .f32) (M : FVec Ideal S12500x128 .f32) :
    FVec Ideal S64x12500 .f32 :=
  Host.divf (Host.dotGeneral dot_S64x128_S128x12500_S64x12500_1_0_0_1_n_n none xn
      (transpose S128x12500 [1, 0] M transposes_S12500x128_S128x12500_1_0))
    (broadcastInDim S64x12500 ![] bcast_S_S64x12500 (constant S_ .f32 0x3D4CCCCD#32))

/-- The logits less their row's maximum. -/
def shifted (G : FVec Ideal S64x12500 .f32) : FVec Ideal S64x12500 .f32 :=
  subf G (broadcastInDim S64x12500 ![0, 1] bcast_S64x1_S64x12500_0_1
    (broadcastInDim S64x1 ![0] bcast_S64_S64x1_0
      (maximumf (broadcastInDim S64 ![] bcast_S_S64 (constant S_ .f32 0xFF800000#32))
        (Host.reduce FloatOps.maximumf G (constant S_ .f32 0xFF800000#32)
          reducesTo_S64x12500_S64_d1 h_S_))))

/-- One camera's cross entropy, from its labels and its shifted logits. -/
def crossOf (L Z : FVec Ideal S64x12500 .f32) : FVec Ideal S_ .f32 :=
  Host.divf (Host.divf (Host.reduceAdd (Host.reduceAdd (Host.negf (mulf
    (Host.divf L (broadcastInDim S64x12500 ![0, 1] bcast_S64x1_S64x12500_0_1
      (addf (broadcastInDim S64x1 ![0] bcast_S64_S64x1_0
          (Host.reduce FloatOps.maximumf L (constant S_ .f32 0xFF800000#32)
            reducesTo_S64x12500_S64_d1 h_S_))
        (broadcastInDim S64x1 ![] bcast_S_S64x1 (constant S_ .f32 0x1E3CE508#32)))))
    (subf Z (broadcastInDim S64x12500 ![0, 1] bcast_S64x1_S64x12500_0_1
      (Host.log (broadcastInDim S64x1 ![0] bcast_S64_S64x1_0
        (Host.reduceAdd (Host.exp Z) (constant S_ .f32 0x00000000#32)
          reducesTo_S64x12500_S64_d1 h_S_))))))) (constant S_ .f32 0x00000000#32)
      reducesTo_S64x12500_S64_d1 h_S_) (constant S_ .f32 0x00000000#32) reducesTo_S64_S_d0 h_S_)
    (constant S_ .f32 0x42800000#32)) (constant S_ .f32 0x41000000#32)

/-- The reference's unit features, entry by entry. -/
theorem unitOf_eq (x : FVec Ideal S64x128 .f32) (r : Fin 64) (d : Fin 128) :
    unitOf x (ix2 r d) = Ideal.div (x (ix2 r d))
      (max (Ideal.sqrt (∑ k, x (ix2 r k) * x (ix2 r k))) ((tiny : ℝ) : EReal)) := by
  pointwise [unitOf]
  rw [show Ideal.ofBits .f32 730643660#32 = _ from bits_tiny]

/-- The reference's logits, entry by entry. -/
theorem logitsOf_eq (xn : FVec Ideal S64x128 .f32) (M : FVec Ideal S12500x128 .f32)
    (r : Fin 64) (j : Fin 12500) :
    logitsOf xn M (ix2 r j)
      = Ideal.div (∑ d, xn (ix2 r d) * M (ix2 j d)) ((ib⁻¹ : ℝ) : EReal) := by
  pointwise [logitsOf]
  rw [show Ideal.ofBits .f32 1028443341#32 = _ from bits_temp]

/-- The shifted logits, entry by entry. -/
theorem shifted_eq (G : FVec Ideal S64x12500 .f32) (r : Fin 64) (j : Fin 12500) :
    shifted G (ix2 r j) = G (ix2 r j) - Finset.univ.sup fun k => G (ix2 r k) := by
  pointwise [shifted]
  rw [show Ideal.ofBits .f32 4286578688#32 = ⊥ from bits_bot, max_eq_right bot_le]
  rfl

/-- One camera's cross entropy, as sums. -/
theorem crossOf_eq (L Z : FVec Ideal S64x12500 .f32) (i : S_.Idx) :
    crossOf L Z i = Ideal.div (Ideal.div (∑ r, ∑ j,
        -(Ideal.div (L (ix2 r j)) ((Finset.univ.sup fun k => L (ix2 r k)) + ((eps : ℝ) : EReal))
          * (Z (ix2 r j) - Ideal.log (∑ k, Ideal.exp (Z (ix2 r k))))))
        ((64 : ℝ) : EReal)) ((8 : ℝ) : EReal) := by
  pointwise [crossOf]
  rw [show Ideal.ofBits .f32 4286578688#32 = ⊥ from bits_bot,
    show Ideal.ofBits .f32 507307272#32 = _ from bits_eps,
    show Ideal.ofBits .f32 1115684864#32 = _ from bits_64,
    show Ideal.ofBits .f32 1090519040#32 = _ from bits_8]
  rfl

/-- A slice of columns, entry by entry. -/
theorem cols_eq (off : ℕ) (y : FVec Ideal S64x100000 .f32) (h : S64x100000.Slices ![0, off] S64x12500)
    (r : Fin 64) (j : Fin 12500) (hj : off + j.val < 100000) :
    extractStridedSlice S64x12500 ![0, off] y h (ix2 r j) = y (ix2 r ⟨off + j.val, hj⟩) :=
  extractStridedSlice_apply ![0, off] y h _ _ fun a => by fin_cases a <;> simp [ix2]

/-- A slice of rows, entry by entry. -/
theorem rows_eq (off : ℕ) (e : FVec Ideal S100000x128 .f32) (h : S100000x128.Slices ![off, 0] S12500x128)
    (j : Fin 12500) (d : Fin 128) (hj : off + j.val < 100000) :
    extractStridedSlice S12500x128 ![off, 0] e h (ix2 j d) = e (ix2 ⟨off + j.val, hj⟩ d) :=
  extractStridedSlice_apply ![off, 0] e h _ _ fun a => by fin_cases a <;> simp [ix2]

end Cert.Proof.RefValue
-- ==== Proof.RefRun.lean ====
module

public import proofs.«01_k».proof.Proof.RefValue
public import proofs.«01_k».proof.Proof.Gen.ReferenceIdeal.Run

@[expose] public section

set_option maxRecDepth 16384

noncomputable section

/-! The reference's run, its result written as the sum of eight cameras' cross entropies. -/

namespace Cert.Proof.RefRun

open Cert.ReferenceIdeal Cert.ReferenceIdeal.Gen Cert.ReferenceIdeal.Value Cert.Proof.Consts Cert.Proof.RefValue
open Idealize.ShloMosaic Idealize.ShloMosaic.TcCoe Idealize.SL.Sem Idealize.ShloMosaic.StableHlo

/-- One camera's term: its columns of the labels and its rows of the memory are sliced out. -/
def camera (x : FVec Ideal S64x128 .f32) (y : FVec Ideal S64x100000 .f32) (e : FVec Ideal S100000x128 .f32) (off : ℕ)
    (hy : S64x100000.Slices ![0, off] S64x12500) (he : S100000x128.Slices ![off, 0] S12500x128) : FVec Ideal S_ .f32 :=
  crossOf (extractStridedSlice S64x12500 ![0, off] y hy)
    (shifted (logitsOf (unitOf x) (extractStridedSlice S12500x128 ![off, 0] e he)))

/-- The eight terms, added up from zero. -/
def total (x : FVec Ideal S64x128 .f32) (y : FVec Ideal S64x100000 .f32) (e : FVec Ideal S100000x128 .f32) : FVec Ideal S_ .f32 :=
  addf (addf (addf (addf (addf (addf (addf (addf (constant S_ .f32 0x00000000#32)
    (camera x y e 0 slices_S64x100000_S64x12500_0_0 slices_S100000x128_S12500x128_0_0))
    (camera x y e 12500 slices_S64x100000_S64x12500_0_12500 slices_S100000x128_S12500x128_12500_0))
    (camera x y e 25000 slices_S64x100000_S64x12500_0_25000 slices_S100000x128_S12500x128_25000_0))
    (camera x y e 37500 slices_S64x100000_S64x12500_0_37500 slices_S100000x128_S12500x128_37500_0))
    (camera x y e 50000 slices_S64x100000_S64x12500_0_50000 slices_S100000x128_S12500x128_50000_0))
    (camera x y e 62500 slices_S64x100000_S64x12500_0_62500 slices_S100000x128_S12500x128_62500_0))
    (camera x y e 75000 slices_S64x100000_S64x12500_0_75000 slices_S100000x128_S12500x128_75000_0))
    (camera x y e 87500 slices_S64x100000_S64x12500_0_87500 slices_S100000x128_S12500x128_87500_0)

/-- The reference runs to its end with the eight cameras' total as its result and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v164)
        = total (m ((c.tc : Thread nD τ).loc main_arg0)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans rfl, (h c).2⟩) (Value.run m ρ)

/-- The total is the sum of the eight terms. -/
theorem total_eq (x : FVec Ideal S64x128 .f32) (y : FVec Ideal S64x100000 .f32) (e : FVec Ideal S100000x128 .f32)
    (f : Fin 8 → EReal) (i : S_.Idx)
    (hf : ∀ (k : Fin 8) hy he, camera x y e (12500 * k.val) hy he i = f k) : total x y e i = ∑ k, f k := by
  have h0 : (constant (F := Ideal) S_ .f32 0x00000000#32 : FVec Ideal S_ .f32) i = (0 : EReal) := by pointwise
  rw [Fin.sum_univ_eight, ← hf 0 slices_S64x100000_S64x12500_0_0 slices_S100000x128_S12500x128_0_0,
    ← hf 1 slices_S64x100000_S64x12500_0_12500 slices_S100000x128_S12500x128_12500_0,
    ← hf 2 slices_S64x100000_S64x12500_0_25000 slices_S100000x128_S12500x128_25000_0,
    ← hf 3 slices_S64x100000_S64x12500_0_37500 slices_S100000x128_S12500x128_37500_0,
    ← hf 4 slices_S64x100000_S64x12500_0_50000 slices_S100000x128_S12500x128_50000_0,
    ← hf 5 slices_S64x100000_S64x12500_0_62500 slices_S100000x128_S12500x128_62500_0,
    ← hf 6 slices_S64x100000_S64x12500_0_75000 slices_S100000x128_S12500x128_75000_0,
    ← hf 7 slices_S64x100000_S64x12500_0_87500 slices_S100000x128_S12500x128_87500_0, ← zero_add (camera x y e (12500 * (0 : Fin 8).val) _ _ i), ← h0]
  rfl

/-- One camera's term, as sums over its rows and columns. -/
theorem camera_eq (x : FVec Ideal S64x128 .f32) (y : FVec Ideal S64x100000 .f32) (e : FVec Ideal S100000x128 .f32) (off : ℕ)
    (hy : S64x100000.Slices ![0, off] S64x12500) (he : S100000x128.Slices ![off, 0] S12500x128) (i : S_.Idx)
    (Y : Fin 64 → Fin 12500 → EReal) (hY : ∀ r j, ∃ h : off + j.val < 100000, y (ix2 r ⟨off + j.val, h⟩) = Y r j)
    (E : Fin 12500 → Fin 128 → EReal) (hE : ∀ j d, ∃ h : off + j.val < 100000, e (ix2 ⟨off + j.val, h⟩ d) = E j d)
    (G : Fin 64 → Fin 12500 → EReal)
    (hG : ∀ r j, G r j = Ideal.div (∑ d, unitOf x (ix2 r d) * E j d) ((ib⁻¹ : ℝ) : EReal)) :
    camera x y e off hy he i = Ideal.div (Ideal.div (∑ r, ∑ j,
        -(Ideal.div (Y r j) (Finset.univ.sup (Y r) + ((eps : ℝ) : EReal))
          * (G r j - Finset.univ.sup (G r) - Ideal.log (∑ k, Ideal.exp (G r k - Finset.univ.sup (G r))))))
        ((64 : ℝ) : EReal)) ((8 : ℝ) : EReal) := by
  have h1 : ∀ r j, extractStridedSlice S64x12500 ![0, off] y hy (ix2 r j) = Y r j := fun r j =>
    (cols_eq off y hy r j (hY r j).1).trans (hY r j).2
  have h2 : ∀ j d, extractStridedSlice S12500x128 ![off, 0] e he (ix2 j d) = E j d := fun j d =>
    (rows_eq off e he j d (hE j d).1).trans (hE j d).2
  have h3 : ∀ r j, logitsOf (unitOf x) (extractStridedSlice S12500x128 ![off, 0] e he) (ix2 r j) = G r j := by
    intro r j
    rw [logitsOf_eq, hG]
    simp only [h2]
  unfold camera
  rw [crossOf_eq]
  simp only [h1, shifted_eq, h3]

end Cert.Proof.RefRun
-- ==== Proof.Segment.lean ====
module

public import proofs.«01_k».proof.Proof.Run
public import proofs.«01_k».proof.Proof.RowMath
public import proofs.«01_k».proof.Proof.RefRun
public import proofs.«01_k».proof.Pre_tame
public import Idealize.ShloMosaic.Lib.Pointwise

@[expose] public section

set_option maxRecDepth 16384

noncomputable section

/-! One camera: the kernel's loss over the camera's range of columns is the reference's term. -/

namespace Cert.Proof.Segment

open Idealize.ShloMosaic Idealize.ShloMosaic.TcCoe Idealize.SL.Sem
open Cert.Proof.Consts Cert.Proof.State Cert.Proof.Points Cert.Proof.RowMath

/-- A sum over a camera's range of columns, counted from the camera's first. -/
theorem range_sum (k : ℕ) (f : ℕ → EReal) :
    ∑ j ∈ Finset.Ico (12500 * k) (12500 * (k + 1)), f j = ∑ j : Fin 12500, f (12500 * k + j.val) := by
  rw [Finset.sum_Ico_eq_sum_range, show 12500 * (k + 1) - 12500 * k = 12500 by omega, Finset.sum_range]

/-- The greatest over a camera's range of columns, counted from the camera's first. -/
theorem range_sup (k : ℕ) (f : ℕ → EReal) :
    (Finset.Ico (12500 * k) (12500 * (k + 1))).sup f = Finset.univ.sup fun j : Fin 12500 => f (12500 * k + j.val) := by
  refine le_antisymm (Finset.sup_le fun j hj => ?_) (Finset.sup_le fun j _ => ?_)
  · rw [Finset.mem_Ico] at hj
    have := Finset.le_sup (f := fun j : Fin 12500 => f (12500 * k + j.val)) (Finset.mem_univ ⟨j - 12500 * k, by omega⟩)
    simpa [Nat.add_sub_cancel' hj.1] using this
  · exact Finset.le_sup (f := f) (Finset.mem_Ico.mpr ⟨by omega, by omega⟩)

/-! ## The precondition -/

/-- The shape relations the precondition's operations take. -/
instance tame_facts : Cert.Pre_tame.Facts where
  bcast_S_S64x100000 := by decide
  bcast_S_S100000x128 := by decide

/-- A proposition whose bit is one holds. -/
theorem of_bit {p : Prop} [Decidable p] (h : BitVec.ofBool (decide p) = 1#1) : p := by
  by_contra hn
  rw [decide_eq_false hn] at h
  exact absurd h (by decide)

/-- A number whose absolute value is below plus infinity is real. -/
theorem real_of_abs {b : EReal} (h : max b (-b) < ⊤) : ∃ a : ℝ, b = a := by
  induction b with
  | bot => simp at h
  | top => simp at h
  | coe a => exact ⟨a, rfl⟩

/-- Labels the precondition admits are above minus infinity. -/
theorem tame_labels (x : FVec Ideal Cert.Pre_tame.S64x128 .f32) (p q s : IVec Cert.Pre_tame.S64 32)
    (y : FVec Ideal Cert.Pre_tame.S64x100000 .f32) (e : FVec Ideal Cert.Pre_tame.S100000x128 .f32)
    (h : (Cert.Pre_tame.fn x p q s y e).1 = fun _ => 1#1) (r : Fin 64) (j : Fin 100000) : (⊥ : EReal) < y (ix2 r j) := by
  have := congrFun h (ix2 r j)
  pointwise [Cert.Pre_tame.fn] at this
  rw [show Ideal.ofBits .f32 4286578688#32 = ⊥ from bits_bot] at this
  exact of_bit this

/-- Memory entries the precondition admits are real. -/
theorem tame_em (x : FVec Ideal Cert.Pre_tame.S64x128 .f32) (p q s : IVec Cert.Pre_tame.S64 32)
    (y : FVec Ideal Cert.Pre_tame.S64x100000 .f32) (e : FVec Ideal Cert.Pre_tame.S100000x128 .f32)
    (h : (Cert.Pre_tame.fn x p q s y e).2 = fun _ => 1#1) (j : Fin 100000) (d : Fin 128) :
    ∃ a : ℝ, (e (ix2 j d) : EReal) = a := by
  have := congrFun h (ix2 j d)
  pointwise [Cert.Pre_tame.fn] at this
  rw [show Ideal.ofBits .f32 2139095040#32 = ⊤ from bits_top] at this
  exact real_of_abs (of_bit this)

/-! ## One camera -/

section Camera

open Cert.KernelIdeal Cert.KernelIdeal.Gen

variable (m : (ℓ : Loc nD τ sig) → Buf (Elt Ideal) ℓ) (c : Dev nD)

/-- The kernel's loss of a camera is the reference's term of it, the labels above minus infinity and the memory real. -/
theorem camera_loss (k : Fin 8) (hy he) (i : Cert.ReferenceIdeal.S_.Idx)
    (hY : ∀ r (j : Fin 100000), (⊥ : EReal) < (m ((c : Thread nD τ).loc main_arg4) : Vec Ideal S64x100000 .f32) (ix2 r j))
    (hE : ∀ (j : Fin 100000) d, ∃ a : ℝ, (m ((c : Thread nD τ).loc main_arg5) : Vec Ideal S100000x128 .f32) (ix2 j d) = ((a : ℝ) : EReal)) :
    RefRun.camera (m ((c : Thread nD τ).loc main_arg0)) (m ((c : Thread nD τ).loc main_arg4))
      (m ((c : Thread nD τ).loc main_arg5)) (12500 * k.val) hy he i = Run.loss m c k.val := by
  have hlt : ∀ j : Fin 12500, 12500 * k.val + j.val < 100000 := fun j => by have := k.isLt; have := j.isLt; omega
  have hE' : ∀ (j : Fin 12500) d, ∃ a : ℝ, E m c (12500 * k.val + j.val) d = a := fun j d => by
    rw [E, dif_pos (hlt j)]; exact hE _ _
  choose a ha using hE'
  change RefRun.camera (X m c) _ _ _ hy he i = _
  rw [RefRun.camera_eq (X m c) _ _ _ hy he i (fun r j => Y m c r (12500 * k.val + j.val))
    (fun r j => ⟨hlt j, by rw [Y, dif_pos (hlt j)]⟩) (fun j d => ((a j d : ℝ) : EReal))
    (fun j d => ⟨hlt j, by rw [← ha, E, dif_pos (hlt j)]⟩) _ (fun r j => rfl), mean_eq]
  unfold Run.loss segOut
  congr 1
  refine Finset.sum_congr rfl fun r _ => ?_
  simp only [rowOut, expTerm, logit, range_sum, range_sup, ha]
  exact (row_eq (fun d => X m c (ix2 r d)) a (fun j => Y m c r (12500 * k.val + j.val))
    (fun j => by rw [Y, dif_pos (hlt j)]; exact hY _ _) _ _ (fun d => scaled_eq (X m c) r d)
    (fun d => RefValue.unitOf_eq (X m c) r d) _ (fun j => rfl)).symm

end Camera

end Cert.Proof.Segment
-- ==== Proof.lean ====
/- The proof of this certificate's claim. Each part is proved in a module of its own under proof/Proof/; here they are put
   together. -/
module

public import proofs.«01_k».proof.Defs
public import proofs.«01_k».proof.Proof.KernelFrame
public import proofs.«01_k».proof.Proof.Result
public import proofs.«01_k».proof.Proof.Segment
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The kernel as printed runs to its end with its arguments unchanged and its semaphores at zero. -/
theorem frame_kernel : Cert.quiescent_Kernel := fun m g _ => KernelFrame.frame m g

/-- The idealized kernel runs to its end with its arguments unchanged and its semaphores at zero. -/
theorem frame_kernelIdeal : Cert.quiescent_KernelIdeal := fun m g _ =>
  (θ_run Cert.KernelIdeal.defs _ _).mono (fun r h => ⟨fun c => (h.1 c).2, h.2⟩) (Result.run m g)

/-- The same, of the memories the precondition admits. -/
theorem frame_kernelIdeal_tame : Cert.quiescent_KernelIdeal_pre_tame := fun m g _ => frame_kernelIdeal m g trivial

/-- The reference runs to its end with its arguments unchanged; it has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (RefRun.run m g)

/-- The same, of the memories the precondition admits. -/
theorem frame_reference_tame : Cert.quiescent_ReferenceIdeal_pre_tame := fun m g _ => frame_reference m g trivial

/-- The two named constants are the words the kernel prints: the mask read as minus infinity, and 20 read as the exact
    reciprocal of the temperature the reference divides by. -/
theorem preserves : Cert.preserves_Kernel_KernelIdeal :=
  ⟨IdealRules.named_const.statement Cert.KernelIdeal.κ "mask" .f32 0xF149F2CA#32 ⊥ rfl,
   IdealRules.named_const.statement Cert.KernelIdeal.κ "inv_beta" .f32 0x41A00000#32 ((268435456 / 13421773 : ℝ) : EReal) rfl⟩

/-- The loss both programs end with: the eight cameras' losses added up. -/
def lossSum (m : (ℓ : Loc Cert.KernelIdeal.nD Cert.KernelIdeal.τ Cert.KernelIdeal.sig) → Buf (Elt Ideal) ℓ)
    (c : Dev Cert.KernelIdeal.nD) : Vec Ideal Cert.KernelIdeal.S_ .f32 :=
  fun _ => (∑ k : Fin 8, Run.loss m c k.val : EReal)

/-- On equal arguments the precondition admits, the idealized kernel and the reference end with the same loss. -/
theorem algebraic : Cert.algebraic_KernelIdeal_ReferenceIdeal_pre_tame := by
  intro m g m' g' hpre hargs
  refine ⟨lossSum m,
    (θ_run Cert.KernelIdeal.defs _ _).mono (fun r h => h.1) (Result.run m g),
    (θ_run Cert.ReferenceIdeal.defs _ _).mono (fun r h c => ⟨(h c).1.trans ?_, (h c).2⟩) (RefRun.run m' g')⟩
  obtain ⟨h0, -, -, -, h4, h5⟩ := hargs c
  rw [h0, h4, h5]
  funext i
  exact RefRun.total_eq _ _ _ _ i fun k hy he => Segment.camera_loss m c k hy he i
    (Segment.tame_labels _ _ _ _ _ _ (hpre c).1) (Segment.tame_em _ _ _ _ _ _ (hpre c).2)

/-- Everything this certificate claims. -/
theorem claim : Cert.Claim :=
  ⟨Cert.Kernel.Gen.facts, Cert.KernelIdeal.Gen.facts, Cert.ReferenceIdeal.Gen.facts, Segment.tame_facts,
    frame_kernel, frame_kernelIdeal, frame_kernelIdeal_tame, frame_reference, frame_reference_tame, preserves, algebraic⟩

end Cert.Proof

end
